-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_names_rows_KernelIdeal [hPre_names_rows_KernelIdeal : Cert.Pre_names_rows_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_names_rows_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_names_rows_ReferenceIdeal [hPre_names_rows_ReferenceIdeal : Cert.Pre_names_rows_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_rows_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_names_rows_KernelIdeal [hKernelIdeal : Cert.KernelIdeal.Facts] [hPre_names_rows_KernelIdeal : Cert.Pre_names_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_names_rows_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_names_rows_ReferenceIdeal [hReferenceIdeal : Cert.ReferenceIdeal.Facts] [hPre_names_rows_ReferenceIdeal : Cert.Pre_names_rows_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_names_rows_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_names_rows_KernelIdeal [hKernelIdeal : Cert.KernelIdeal.Facts] [hReferenceIdeal : Cert.ReferenceIdeal.Facts] [hPre_names_rows_KernelIdeal : Cert.Pre_names_rows_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_names_rows_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![131072, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_names_rows_KernelIdeal : Cert.Pre_names_rows_KernelIdeal.Facts) (hPre_names_rows_ReferenceIdeal : Cert.Pre_names_rows_ReferenceIdeal.Facts),
    quiescent_Kernel (hKernel := hKernel)
    ∧ quiescent_KernelIdeal (hKernelIdeal := hKernelIdeal)
    ∧ quiescent_KernelIdeal_pre_names_rows_KernelIdeal (hKernelIdeal := hKernelIdeal) (hPre_names_rows_KernelIdeal := hPre_names_rows_KernelIdeal)
    ∧ quiescent_ReferenceIdeal (hReferenceIdeal := hReferenceIdeal)
    ∧ quiescent_ReferenceIdeal_pre_names_rows_ReferenceIdeal (hReferenceIdeal := hReferenceIdeal) (hPre_names_rows_ReferenceIdeal := hPre_names_rows_ReferenceIdeal)
    ∧ preserves_Kernel_KernelIdeal
    ∧ algebraic_KernelIdeal_ReferenceIdeal_pre_names_rows_KernelIdeal (hKernelIdeal := hKernelIdeal) (hReferenceIdeal := hReferenceIdeal) (hPre_names_rows_KernelIdeal := hPre_names_rows_KernelIdeal)
-- ==== Pre_names_rows_KernelIdeal.lean ====
abbrev S4096x512 : Shape := ⟨2, ![4096, 512]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S4096x512 .bf16) (main_arg1 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 131072#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Pre_names_rows_ReferenceIdeal.lean ====
abbrev S131072x512 : Shape := ⟨2, ![131072, 512]⟩
abbrev S1024 : Shape := ⟨1, ![1024]⟩
abbrev S_ : Shape := ⟨0, ![]⟩

class Facts : Prop where
  bcast_S_S1024 : S_.BroadcastsInDim S1024 (![] : Fin 0 → Fin S1024.rank)

variable [Facts]

def fn {F : FTy → Type} [FloatOps F] (main_arg0 : FVec F S131072x512 .bf16) (main_arg1 : IVec S1024 32) : IVec S1024 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 131072#32
  let main_v2 : IVec S1024 32 := broadcastInDim S1024 ![] bcast_S_S1024 main_c_0
  let main_v3 : IVec S1024 1 := cmpi .slt main_arg1 main_v2
  let main_v4 : IVec S1024 1 := andi main_v1 main_v3
  main_v4
-- ==== Kernel.lean ====
abbrev S4096x512 : Shape := ⟨2, ![4096, 512]⟩
abbrev S1024 : Shape := ⟨1, ![1024]⟩
abbrev S1024x512 : Shape := ⟨2, ![1024, 512]⟩
abbrev S896x512 : Shape := ⟨2, ![896, 512]⟩
abbrev S96x512 : Shape := ⟨2, ![96, 512]⟩
abbrev S8 : Shape := ⟨1, ![8]⟩
abbrev S4 : Shape := ⟨1, ![4]⟩
abbrev S_ : Shape := ⟨0, ![]⟩
abbrev S1024x1 : Shape := ⟨2, ![1024, 1]⟩
abbrev S1024x2048 : Shape := ⟨2, ![1024, 2048]⟩
abbrev S2048x512 : Shape := ⟨2, ![2048, 512]⟩
abbrev S1 : Shape := ⟨1, ![1]⟩
abbrev S128x512 : Shape := ⟨2, ![128, 512]⟩
abbrev S32x512 : Shape := ⟨2, ![32, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S1024, .i32⟩
  | .hbm, ⟨2, _⟩ => ⟨S1024x512, .bf16⟩
  | .local _ .vmem, ⟨0, _⟩ => ⟨S4096x512, .bf16⟩
  | .local _ .vmem, ⟨1, _⟩ => ⟨S1024, .i32⟩
  | .local _ .vmem, ⟨2, _⟩ => ⟨S1024x512, .bf16⟩
  | .local _ .vmem, ⟨3, _⟩ => ⟨S896x512, .bf16⟩
  | .local _ .vmem, ⟨4, _⟩ => ⟨S96x512, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 1 51 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_22 : BitVec 32 := 0#32
  let c8_i32_12 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v34 : BitVec 32 := Scalar.muli c8_i32_12 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_13 : BitVec 32 := 1#32
  let v35 : BitVec 32 := Scalar.addi v29 c1_i32_13
  let c8_i32_14 : BitVec 32 := 8#32
  let c0_i32_15 : BitVec 32 := 0#32
  let v36 : BitVec 1 := Scalar.cmpi .eq c8_i32_14 c0_i32_15
  let c1_i32_16 : BitVec 32 := 1#32
  let v37 : BitVec 32 := Scalar.select v36 c1_i32_16 c8_i32_14
  let v38 : BitVec 32 := Scalar.remsi v35 v37
  let c0_i32_18 : BitVec 32 := 0#32
  let v40 : BitVec 1 := Scalar.cmpi .slt v38 c0_i32_18
  let c0_i32_19 : BitVec 32 := 0#32
  let v41 : BitVec 1 := Scalar.cmpi .slt v37 c0_i32_19
  let v42 : BitVec 1 := Scalar.xori v40 v41
  let c0_i32_17 : BitVec 32 := 0#32
  let v39 : BitVec 1 := Scalar.cmpi .ne v38 c0_i32_17
  let v43 : BitVec 1 := Scalar.andi v42 v39
  let v44 : BitVec 32 := Scalar.addi v38 v37
  let v45 : BitVec 32 := Scalar.select v43 v44 v38
  let v46 : BitVec 32 := Scalar.addi v34 v45
  let c1_i32_21 : BitVec 32 := 1#32
  let v47 : BitVec 32 := Scalar.muli v46 c1_i32_21
  let v48 : BitVec 32 := Scalar.addi c0_i32_22 v47
  v48.toNat
def k0_dev2 (d0 : Dev nD) : Nat :=
  let c0_i32_32 : BitVec 32 := 0#32
  let c8_i32_23 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v49 : BitVec 32 := Scalar.muli c8_i32_23 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32 : BitVec 32 := 2#32
  let v50 : BitVec 32 := Scalar.addi v29 c2_i32
  let c8_i32_24 : BitVec 32 := 8#32
  let c0_i32_25 : BitVec 32 := 0#32
  let v51 : BitVec 1 := Scalar.cmpi .eq c8_i32_24 c0_i32_25
  let c1_i32_26 : BitVec 32 := 1#32
  let v52 : BitVec 32 := Scalar.select v51 c1_i32_26 c8_i32_24
  let v53 : BitVec 32 := Scalar.remsi v50 v52
  let c0_i32_28 : BitVec 32 := 0#32
  let v55 : BitVec 1 := Scalar.cmpi .slt v53 c0_i32_28
  let c0_i32_29 : BitVec 32 := 0#32
  let v56 : BitVec 1 := Scalar.cmpi .slt v52 c0_i32_29
  let v57 : BitVec 1 := Scalar.xori v55 v56
  let c0_i32_27 : BitVec 32 := 0#32
  let v54 : BitVec 1 := Scalar.cmpi .ne v53 c0_i32_27
  let v58 : BitVec 1 := Scalar.andi v57 v54
  let v59 : BitVec 32 := Scalar.addi v53 v52
  let v60 : BitVec 32 := Scalar.select v58 v59 v53
  let v61 : BitVec 32 := Scalar.addi v49 v60
  let c1_i32_31 : BitVec 32 := 1#32
  let v62 : BitVec 32 := Scalar.muli v61 c1_i32_31
  let v63 : BitVec 32 := Scalar.addi c0_i32_32 v62
  v63.toNat
def k0_dev3 (d0 : Dev nD) : Nat :=
  let c0_i32_42 : BitVec 32 := 0#32
  let c8_i32_33 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v64 : BitVec 32 := Scalar.muli c8_i32_33 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32 : BitVec 32 := 3#32
  let v65 : BitVec 32 := Scalar.addi v29 c3_i32
  let c8_i32_34 : BitVec 32 := 8#32
  let c0_i32_35 : BitVec 32 := 0#32
  let v66 : BitVec 1 := Scalar.cmpi .eq c8_i32_34 c0_i32_35
  let c1_i32_36 : BitVec 32 := 1#32
  let v67 : BitVec 32 := Scalar.select v66 c1_i32_36 c8_i32_34
  let v68 : BitVec 32 := Scalar.remsi v65 v67
  let c0_i32_38 : BitVec 32 := 0#32
  let v70 : BitVec 1 := Scalar.cmpi .slt v68 c0_i32_38
  let c0_i32_39 : BitVec 32 := 0#32
  let v71 : BitVec 1 := Scalar.cmpi .slt v67 c0_i32_39
  let v72 : BitVec 1 := Scalar.xori v70 v71
  let c0_i32_37 : BitVec 32 := 0#32
  let v69 : BitVec 1 := Scalar.cmpi .ne v68 c0_i32_37
  let v73 : BitVec 1 := Scalar.andi v72 v69
  let v74 : BitVec 32 := Scalar.addi v68 v67
  let v75 : BitVec 32 := Scalar.select v73 v74 v68
  let v76 : BitVec 32 := Scalar.addi v64 v75
  let c1_i32_41 : BitVec 32 := 1#32
  let v77 : BitVec 32 := Scalar.muli v76 c1_i32_41
  let v78 : BitVec 32 := Scalar.addi c0_i32_42 v77
  v78.toNat
def k0_dev4 (d0 : Dev nD) : Nat :=
  let c0_i32_52 : BitVec 32 := 0#32
  let c8_i32_43 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v79 : BitVec 32 := Scalar.muli c8_i32_43 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32 : BitVec 32 := 4#32
  let v80 : BitVec 32 := Scalar.addi v29 c4_i32
  let c8_i32_44 : BitVec 32 := 8#32
  let c0_i32_45 : BitVec 32 := 0#32
  let v81 : BitVec 1 := Scalar.cmpi .eq c8_i32_44 c0_i32_45
  let c1_i32_46 : BitVec 32 := 1#32
  let v82 : BitVec 32 := Scalar.select v81 c1_i32_46 c8_i32_44
  let v83 : BitVec 32 := Scalar.remsi v80 v82
  let c0_i32_48 : BitVec 32 := 0#32
  let v85 : BitVec 1 := Scalar.cmpi .slt v83 c0_i32_48
  let c0_i32_49 : BitVec 32 := 0#32
  let v86 : BitVec 1 := Scalar.cmpi .slt v82 c0_i32_49
  let v87 : BitVec 1 := Scalar.xori v85 v86
  let c0_i32_47 : BitVec 32 := 0#32
  let v84 : BitVec 1 := Scalar.cmpi .ne v83 c0_i32_47
  let v88 : BitVec 1 := Scalar.andi v87 v84
  let v89 : BitVec 32 := Scalar.addi v83 v82
  let v90 : BitVec 32 := Scalar.select v88 v89 v83
  let v91 : BitVec 32 := Scalar.addi v79 v90
  let c1_i32_51 : BitVec 32 := 1#32
  let v92 : BitVec 32 := Scalar.muli v91 c1_i32_51
  let v93 : BitVec 32 := Scalar.addi c0_i32_52 v92
  v93.toNat
def k0_dev5 (d0 : Dev nD) : Nat :=
  let c0_i32_62 : BitVec 32 := 0#32
  let c8_i32_53 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v94 : BitVec 32 := Scalar.muli c8_i32_53 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32 : BitVec 32 := 5#32
  let v95 : BitVec 32 := Scalar.addi v29 c5_i32
  let c8_i32_54 : BitVec 32 := 8#32
  let c0_i32_55 : BitVec 32 := 0#32
  let v96 : BitVec 1 := Scalar.cmpi .eq c8_i32_54 c0_i32_55
  let c1_i32_56 : BitVec 32 := 1#32
  let v97 : BitVec 32 := Scalar.select v96 c1_i32_56 c8_i32_54
  let v98 : BitVec 32 := Scalar.remsi v95 v97
  let c0_i32_58 : BitVec 32 := 0#32
  let v100 : BitVec 1 := Scalar.cmpi .slt v98 c0_i32_58
  let c0_i32_59 : BitVec 32 := 0#32
  let v101 : BitVec 1 := Scalar.cmpi .slt v97 c0_i32_59
  let v102 : BitVec 1 := Scalar.xori v100 v101
  let c0_i32_57 : BitVec 32 := 0#32
  let v99 : BitVec 1 := Scalar.cmpi .ne v98 c0_i32_57
  let v103 : BitVec 1 := Scalar.andi v102 v99
  let v104 : BitVec 32 := Scalar.addi v98 v97
  let v105 : BitVec 32 := Scalar.select v103 v104 v98
  let v106 : BitVec 32 := Scalar.addi v94 v105
  let c1_i32_61 : BitVec 32 := 1#32
  let v107 : BitVec 32 := Scalar.muli v106 c1_i32_61
  let v108 : BitVec 32 := Scalar.addi c0_i32_62 v107
  v108.toNat
def k0_dev6 (d0 : Dev nD) : Nat :=
  let c0_i32_72 : BitVec 32 := 0#32
  let c8_i32_63 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v109 : BitVec 32 := Scalar.muli c8_i32_63 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32 : BitVec 32 := 6#32
  let v110 : BitVec 32 := Scalar.addi v29 c6_i32
  let c8_i32_64 : BitVec 32 := 8#32
  let c0_i32_65 : BitVec 32 := 0#32
  let v111 : BitVec 1 := Scalar.cmpi .eq c8_i32_64 c0_i32_65
  let c1_i32_66 : BitVec 32 := 1#32
  let v112 : BitVec 32 := Scalar.select v111 c1_i32_66 c8_i32_64
  let v113 : BitVec 32 := Scalar.remsi v110 v112
  let c0_i32_68 : BitVec 32 := 0#32
  let v115 : BitVec 1 := Scalar.cmpi .slt v113 c0_i32_68
  let c0_i32_69 : BitVec 32 := 0#32
  let v116 : BitVec 1 := Scalar.cmpi .slt v112 c0_i32_69
  let v117 : BitVec 1 := Scalar.xori v115 v116
  let c0_i32_67 : BitVec 32 := 0#32
  let v114 : BitVec 1 := Scalar.cmpi .ne v113 c0_i32_67
  let v118 : BitVec 1 := Scalar.andi v117 v114
  let v119 : BitVec 32 := Scalar.addi v113 v112
  let v120 : BitVec 32 := Scalar.select v118 v119 v113
  let v121 : BitVec 32 := Scalar.addi v109 v120
  let c1_i32_71 : BitVec 32 := 1#32
  let v122 : BitVec 32 := Scalar.muli v121 c1_i32_71
  let v123 : BitVec 32 := Scalar.addi c0_i32_72 v122
  v123.toNat
def k0_dev7 (d0 : Dev nD) : Nat :=
  let c0_i32_82 : BitVec 32 := 0#32
  let c8_i32_73 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v124 : BitVec 32 := Scalar.muli c8_i32_73 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32 : BitVec 32 := 7#32
  let v125 : BitVec 32 := Scalar.addi v29 c7_i32
  let c8_i32_74 : BitVec 32 := 8#32
  let c0_i32_75 : BitVec 32 := 0#32
  let v126 : BitVec 1 := Scalar.cmpi .eq c8_i32_74 c0_i32_75
  let c1_i32_76 : BitVec 32 := 1#32
  let v127 : BitVec 32 := Scalar.select v126 c1_i32_76 c8_i32_74
  let v128 : BitVec 32 := Scalar.remsi v125 v127
  let c0_i32_78 : BitVec 32 := 0#32
  let v130 : BitVec 1 := Scalar.cmpi .slt v128 c0_i32_78
  let c0_i32_79 : BitVec 32 := 0#32
  let v131 : BitVec 1 := Scalar.cmpi .slt v127 c0_i32_79
  let v132 : BitVec 1 := Scalar.xori v130 v131
  let c0_i32_77 : BitVec 32 := 0#32
  let v129 : BitVec 1 := Scalar.cmpi .ne v128 c0_i32_77
  let v133 : BitVec 1 := Scalar.andi v132 v129
  let v134 : BitVec 32 := Scalar.addi v128 v127
  let v135 : BitVec 32 := Scalar.select v133 v134 v128
  let v136 : BitVec 32 := Scalar.addi v124 v135
  let c1_i32_81 : BitVec 32 := 1#32
  let v137 : BitVec 32 := Scalar.muli v136 c1_i32_81
  let v138 : BitVec 32 := Scalar.addi c0_i32_82 v137
  v138.toNat
def k0_dev8 (d0 : Dev nD) : Nat :=
  let c0_i32_93 : BitVec 32 := 0#32
  let c8_i32_90 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_83 : BitVec 32 := 1#32
  let v139 : BitVec 32 := Scalar.addi v19 c1_i32_83
  let c4_i32_84 : BitVec 32 := 4#32
  let c0_i32_85 : BitVec 32 := 0#32
  let v140 : BitVec 1 := Scalar.cmpi .eq c4_i32_84 c0_i32_85
  let c1_i32_86 : BitVec 32 := 1#32
  let v141 : BitVec 32 := Scalar.select v140 c1_i32_86 c4_i32_84
  let v142 : BitVec 32 := Scalar.remsi v139 v141
  let c0_i32_88 : BitVec 32 := 0#32
  let v144 : BitVec 1 := Scalar.cmpi .slt v142 c0_i32_88
  let c0_i32_89 : BitVec 32 := 0#32
  let v145 : BitVec 1 := Scalar.cmpi .slt v141 c0_i32_89
  let v146 : BitVec 1 := Scalar.xori v144 v145
  let c0_i32_87 : BitVec 32 := 0#32
  let v143 : BitVec 1 := Scalar.cmpi .ne v142 c0_i32_87
  let v147 : BitVec 1 := Scalar.andi v146 v143
  let v148 : BitVec 32 := Scalar.addi v142 v141
  let v149 : BitVec 32 := Scalar.select v147 v148 v142
  let v150 : BitVec 32 := Scalar.muli c8_i32_90 v149
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v151 : BitVec 32 := Scalar.addi v150 v29
  let c1_i32_92 : BitVec 32 := 1#32
  let v152 : BitVec 32 := Scalar.muli v151 c1_i32_92
  let v153 : BitVec 32 := Scalar.addi c0_i32_93 v152
  v153.toNat
def k0_dev9 (d0 : Dev nD) : Nat :=
  let c0_i32_104 : BitVec 32 := 0#32
  let c8_i32_101 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_94 : BitVec 32 := 2#32
  let v154 : BitVec 32 := Scalar.addi v19 c2_i32_94
  let c4_i32_95 : BitVec 32 := 4#32
  let c0_i32_96 : BitVec 32 := 0#32
  let v155 : BitVec 1 := Scalar.cmpi .eq c4_i32_95 c0_i32_96
  let c1_i32_97 : BitVec 32 := 1#32
  let v156 : BitVec 32 := Scalar.select v155 c1_i32_97 c4_i32_95
  let v157 : BitVec 32 := Scalar.remsi v154 v156
  let c0_i32_99 : BitVec 32 := 0#32
  let v159 : BitVec 1 := Scalar.cmpi .slt v157 c0_i32_99
  let c0_i32_100 : BitVec 32 := 0#32
  let v160 : BitVec 1 := Scalar.cmpi .slt v156 c0_i32_100
  let v161 : BitVec 1 := Scalar.xori v159 v160
  let c0_i32_98 : BitVec 32 := 0#32
  let v158 : BitVec 1 := Scalar.cmpi .ne v157 c0_i32_98
  let v162 : BitVec 1 := Scalar.andi v161 v158
  let v163 : BitVec 32 := Scalar.addi v157 v156
  let v164 : BitVec 32 := Scalar.select v162 v163 v157
  let v165 : BitVec 32 := Scalar.muli c8_i32_101 v164
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v166 : BitVec 32 := Scalar.addi v165 v29
  let c1_i32_103 : BitVec 32 := 1#32
  let v167 : BitVec 32 := Scalar.muli v166 c1_i32_103
  let v168 : BitVec 32 := Scalar.addi c0_i32_104 v167
  v168.toNat
def k0_dev10 (d0 : Dev nD) : Nat :=
  let c0_i32_115 : BitVec 32 := 0#32
  let c8_i32_112 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_105 : BitVec 32 := 3#32
  let v169 : BitVec 32 := Scalar.addi v19 c3_i32_105
  let c4_i32_106 : BitVec 32 := 4#32
  let c0_i32_107 : BitVec 32 := 0#32
  let v170 : BitVec 1 := Scalar.cmpi .eq c4_i32_106 c0_i32_107
  let c1_i32_108 : BitVec 32 := 1#32
  let v171 : BitVec 32 := Scalar.select v170 c1_i32_108 c4_i32_106
  let v172 : BitVec 32 := Scalar.remsi v169 v171
  let c0_i32_110 : BitVec 32 := 0#32
  let v174 : BitVec 1 := Scalar.cmpi .slt v172 c0_i32_110
  let c0_i32_111 : BitVec 32 := 0#32
  let v175 : BitVec 1 := Scalar.cmpi .slt v171 c0_i32_111
  let v176 : BitVec 1 := Scalar.xori v174 v175
  let c0_i32_109 : BitVec 32 := 0#32
  let v173 : BitVec 1 := Scalar.cmpi .ne v172 c0_i32_109
  let v177 : BitVec 1 := Scalar.andi v176 v173
  let v178 : BitVec 32 := Scalar.addi v172 v171
  let v179 : BitVec 32 := Scalar.select v177 v178 v172
  let v180 : BitVec 32 := Scalar.muli c8_i32_112 v179
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v181 : BitVec 32 := Scalar.addi v180 v29
  let c1_i32_114 : BitVec 32 := 1#32
  let v182 : BitVec 32 := Scalar.muli v181 c1_i32_114
  let v183 : BitVec 32 := Scalar.addi c0_i32_115 v182
  v183.toNat
def k0_off1 (d0 : Dev nD) (c1_i32_124 : BitVec 32) : Fin 2 → Nat :=
  let c128_i32_131 : BitVec 32 := 128#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v217 : BitVec 32 := Scalar.addi v29 c1_i32_124
  let c8_i32_125 : BitVec 32 := 8#32
  let c0_i32_126 : BitVec 32 := 0#32
  let v218 : BitVec 1 := Scalar.cmpi .eq c8_i32_125 c0_i32_126
  let c1_i32_127 : BitVec 32 := 1#32
  let v219 : BitVec 32 := Scalar.select v218 c1_i32_127 c8_i32_125
  let v220 : BitVec 32 := Scalar.remsi v217 v219
  let c0_i32_129 : BitVec 32 := 0#32
  let v222 : BitVec 1 := Scalar.cmpi .slt v220 c0_i32_129
  let c0_i32_130 : BitVec 32 := 0#32
  let v223 : BitVec 1 := Scalar.cmpi .slt v219 c0_i32_130
  let v224 : BitVec 1 := Scalar.xori v222 v223
  let c0_i32_128 : BitVec 32 := 0#32
  let v221 : BitVec 1 := Scalar.cmpi .ne v220 c0_i32_128
  let v225 : BitVec 1 := Scalar.andi v224 v221
  let v226 : BitVec 32 := Scalar.addi v220 v219
  let v227 : BitVec 32 := Scalar.select v225 v226 v220
  let v228 : BitVec 32 := Scalar.muli c128_i32_131 v227
  let c0_i32_139 : BitVec 32 := 0#32
  ![v228.toNat, 0]
def k0_dev11 (d0 : Dev nD) : Nat :=
  let c0_i32_136 : BitVec 32 := 0#32
  let c8_i32_132 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v229 : BitVec 32 := Scalar.muli c8_i32_132 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_124 : BitVec 32 := 1#32
  let v217 : BitVec 32 := Scalar.addi v29 c1_i32_124
  let c8_i32_125 : BitVec 32 := 8#32
  let c0_i32_126 : BitVec 32 := 0#32
  let v218 : BitVec 1 := Scalar.cmpi .eq c8_i32_125 c0_i32_126
  let c1_i32_127 : BitVec 32 := 1#32
  let v219 : BitVec 32 := Scalar.select v218 c1_i32_127 c8_i32_125
  let v220 : BitVec 32 := Scalar.remsi v217 v219
  let c0_i32_129 : BitVec 32 := 0#32
  let v222 : BitVec 1 := Scalar.cmpi .slt v220 c0_i32_129
  let c0_i32_130 : BitVec 32 := 0#32
  let v223 : BitVec 1 := Scalar.cmpi .slt v219 c0_i32_130
  let v224 : BitVec 1 := Scalar.xori v222 v223
  let c0_i32_128 : BitVec 32 := 0#32
  let v221 : BitVec 1 := Scalar.cmpi .ne v220 c0_i32_128
  let v225 : BitVec 1 := Scalar.andi v224 v221
  let v226 : BitVec 32 := Scalar.addi v220 v219
  let v227 : BitVec 32 := Scalar.select v225 v226 v220
  let v230 : BitVec 32 := Scalar.addi v229 v227
  let c1_i32_135 : BitVec 32 := 1#32
  let v231 : BitVec 32 := Scalar.muli v230 c1_i32_135
  let v232 : BitVec 32 := Scalar.addi c0_i32_136 v231
  v232.toNat
def k0_dev12 (d0 : Dev nD) : Nat :=
  let c0_i32_152 : BitVec 32 := 0#32
  let c8_i32_148 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v251 : BitVec 32 := Scalar.muli c8_i32_148 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_140 : BitVec 32 := 2#32
  let v239 : BitVec 32 := Scalar.addi v29 c2_i32_140
  let c8_i32_141 : BitVec 32 := 8#32
  let c0_i32_142 : BitVec 32 := 0#32
  let v240 : BitVec 1 := Scalar.cmpi .eq c8_i32_141 c0_i32_142
  let c1_i32_143 : BitVec 32 := 1#32
  let v241 : BitVec 32 := Scalar.select v240 c1_i32_143 c8_i32_141
  let v242 : BitVec 32 := Scalar.remsi v239 v241
  let c0_i32_145 : BitVec 32 := 0#32
  let v244 : BitVec 1 := Scalar.cmpi .slt v242 c0_i32_145
  let c0_i32_146 : BitVec 32 := 0#32
  let v245 : BitVec 1 := Scalar.cmpi .slt v241 c0_i32_146
  let v246 : BitVec 1 := Scalar.xori v244 v245
  let c0_i32_144 : BitVec 32 := 0#32
  let v243 : BitVec 1 := Scalar.cmpi .ne v242 c0_i32_144
  let v247 : BitVec 1 := Scalar.andi v246 v243
  let v248 : BitVec 32 := Scalar.addi v242 v241
  let v249 : BitVec 32 := Scalar.select v247 v248 v242
  let v252 : BitVec 32 := Scalar.addi v251 v249
  let c1_i32_151 : BitVec 32 := 1#32
  let v253 : BitVec 32 := Scalar.muli v252 c1_i32_151
  let v254 : BitVec 32 := Scalar.addi c0_i32_152 v253
  v254.toNat
def k0_dev13 (d0 : Dev nD) : Nat :=
  let c0_i32_168 : BitVec 32 := 0#32
  let c8_i32_164 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v273 : BitVec 32 := Scalar.muli c8_i32_164 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_156 : BitVec 32 := 3#32
  let v261 : BitVec 32 := Scalar.addi v29 c3_i32_156
  let c8_i32_157 : BitVec 32 := 8#32
  let c0_i32_158 : BitVec 32 := 0#32
  let v262 : BitVec 1 := Scalar.cmpi .eq c8_i32_157 c0_i32_158
  let c1_i32_159 : BitVec 32 := 1#32
  let v263 : BitVec 32 := Scalar.select v262 c1_i32_159 c8_i32_157
  let v264 : BitVec 32 := Scalar.remsi v261 v263
  let c0_i32_161 : BitVec 32 := 0#32
  let v266 : BitVec 1 := Scalar.cmpi .slt v264 c0_i32_161
  let c0_i32_162 : BitVec 32 := 0#32
  let v267 : BitVec 1 := Scalar.cmpi .slt v263 c0_i32_162
  let v268 : BitVec 1 := Scalar.xori v266 v267
  let c0_i32_160 : BitVec 32 := 0#32
  let v265 : BitVec 1 := Scalar.cmpi .ne v264 c0_i32_160
  let v269 : BitVec 1 := Scalar.andi v268 v265
  let v270 : BitVec 32 := Scalar.addi v264 v263
  let v271 : BitVec 32 := Scalar.select v269 v270 v264
  let v274 : BitVec 32 := Scalar.addi v273 v271
  let c1_i32_167 : BitVec 32 := 1#32
  let v275 : BitVec 32 := Scalar.muli v274 c1_i32_167
  let v276 : BitVec 32 := Scalar.addi c0_i32_168 v275
  v276.toNat
def k0_dev14 (d0 : Dev nD) : Nat :=
  let c0_i32_183 : BitVec 32 := 0#32
  let c8_i32_179 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v295 : BitVec 32 := Scalar.muli c8_i32_179 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_171 : BitVec 32 := 4#32
  let v283 : BitVec 32 := Scalar.addi v29 c4_i32_171
  let c8_i32_172 : BitVec 32 := 8#32
  let c0_i32_173 : BitVec 32 := 0#32
  let v284 : BitVec 1 := Scalar.cmpi .eq c8_i32_172 c0_i32_173
  let c1_i32_174 : BitVec 32 := 1#32
  let v285 : BitVec 32 := Scalar.select v284 c1_i32_174 c8_i32_172
  let v286 : BitVec 32 := Scalar.remsi v283 v285
  let c0_i32_176 : BitVec 32 := 0#32
  let v288 : BitVec 1 := Scalar.cmpi .slt v286 c0_i32_176
  let c0_i32_177 : BitVec 32 := 0#32
  let v289 : BitVec 1 := Scalar.cmpi .slt v285 c0_i32_177
  let v290 : BitVec 1 := Scalar.xori v288 v289
  let c0_i32_175 : BitVec 32 := 0#32
  let v287 : BitVec 1 := Scalar.cmpi .ne v286 c0_i32_175
  let v291 : BitVec 1 := Scalar.andi v290 v287
  let v292 : BitVec 32 := Scalar.addi v286 v285
  let v293 : BitVec 32 := Scalar.select v291 v292 v286
  let v296 : BitVec 32 := Scalar.addi v295 v293
  let c1_i32_182 : BitVec 32 := 1#32
  let v297 : BitVec 32 := Scalar.muli v296 c1_i32_182
  let v298 : BitVec 32 := Scalar.addi c0_i32_183 v297
  v298.toNat
def k0_dev15 (d0 : Dev nD) : Nat :=
  let c0_i32_198 : BitVec 32 := 0#32
  let c8_i32_194 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v317 : BitVec 32 := Scalar.muli c8_i32_194 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_186 : BitVec 32 := 5#32
  let v305 : BitVec 32 := Scalar.addi v29 c5_i32_186
  let c8_i32_187 : BitVec 32 := 8#32
  let c0_i32_188 : BitVec 32 := 0#32
  let v306 : BitVec 1 := Scalar.cmpi .eq c8_i32_187 c0_i32_188
  let c1_i32_189 : BitVec 32 := 1#32
  let v307 : BitVec 32 := Scalar.select v306 c1_i32_189 c8_i32_187
  let v308 : BitVec 32 := Scalar.remsi v305 v307
  let c0_i32_191 : BitVec 32 := 0#32
  let v310 : BitVec 1 := Scalar.cmpi .slt v308 c0_i32_191
  let c0_i32_192 : BitVec 32 := 0#32
  let v311 : BitVec 1 := Scalar.cmpi .slt v307 c0_i32_192
  let v312 : BitVec 1 := Scalar.xori v310 v311
  let c0_i32_190 : BitVec 32 := 0#32
  let v309 : BitVec 1 := Scalar.cmpi .ne v308 c0_i32_190
  let v313 : BitVec 1 := Scalar.andi v312 v309
  let v314 : BitVec 32 := Scalar.addi v308 v307
  let v315 : BitVec 32 := Scalar.select v313 v314 v308
  let v318 : BitVec 32 := Scalar.addi v317 v315
  let c1_i32_197 : BitVec 32 := 1#32
  let v319 : BitVec 32 := Scalar.muli v318 c1_i32_197
  let v320 : BitVec 32 := Scalar.addi c0_i32_198 v319
  v320.toNat
def k0_dev16 (d0 : Dev nD) : Nat :=
  let c0_i32_213 : BitVec 32 := 0#32
  let c8_i32_209 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v339 : BitVec 32 := Scalar.muli c8_i32_209 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_201 : BitVec 32 := 6#32
  let v327 : BitVec 32 := Scalar.addi v29 c6_i32_201
  let c8_i32_202 : BitVec 32 := 8#32
  let c0_i32_203 : BitVec 32 := 0#32
  let v328 : BitVec 1 := Scalar.cmpi .eq c8_i32_202 c0_i32_203
  let c1_i32_204 : BitVec 32 := 1#32
  let v329 : BitVec 32 := Scalar.select v328 c1_i32_204 c8_i32_202
  let v330 : BitVec 32 := Scalar.remsi v327 v329
  let c0_i32_206 : BitVec 32 := 0#32
  let v332 : BitVec 1 := Scalar.cmpi .slt v330 c0_i32_206
  let c0_i32_207 : BitVec 32 := 0#32
  let v333 : BitVec 1 := Scalar.cmpi .slt v329 c0_i32_207
  let v334 : BitVec 1 := Scalar.xori v332 v333
  let c0_i32_205 : BitVec 32 := 0#32
  let v331 : BitVec 1 := Scalar.cmpi .ne v330 c0_i32_205
  let v335 : BitVec 1 := Scalar.andi v334 v331
  let v336 : BitVec 32 := Scalar.addi v330 v329
  let v337 : BitVec 32 := Scalar.select v335 v336 v330
  let v340 : BitVec 32 := Scalar.addi v339 v337
  let c1_i32_212 : BitVec 32 := 1#32
  let v341 : BitVec 32 := Scalar.muli v340 c1_i32_212
  let v342 : BitVec 32 := Scalar.addi c0_i32_213 v341
  v342.toNat
def k0_dev17 (d0 : Dev nD) : Nat :=
  let c0_i32_228 : BitVec 32 := 0#32
  let c8_i32_224 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v361 : BitVec 32 := Scalar.muli c8_i32_224 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_216 : BitVec 32 := 7#32
  let v349 : BitVec 32 := Scalar.addi v29 c7_i32_216
  let c8_i32_217 : BitVec 32 := 8#32
  let c0_i32_218 : BitVec 32 := 0#32
  let v350 : BitVec 1 := Scalar.cmpi .eq c8_i32_217 c0_i32_218
  let c1_i32_219 : BitVec 32 := 1#32
  let v351 : BitVec 32 := Scalar.select v350 c1_i32_219 c8_i32_217
  let v352 : BitVec 32 := Scalar.remsi v349 v351
  let c0_i32_221 : BitVec 32 := 0#32
  let v354 : BitVec 1 := Scalar.cmpi .slt v352 c0_i32_221
  let c0_i32_222 : BitVec 32 := 0#32
  let v355 : BitVec 1 := Scalar.cmpi .slt v351 c0_i32_222
  let v356 : BitVec 1 := Scalar.xori v354 v355
  let c0_i32_220 : BitVec 32 := 0#32
  let v353 : BitVec 1 := Scalar.cmpi .ne v352 c0_i32_220
  let v357 : BitVec 1 := Scalar.andi v356 v353
  let v358 : BitVec 32 := Scalar.addi v352 v351
  let v359 : BitVec 32 := Scalar.select v357 v358 v352
  let v362 : BitVec 32 := Scalar.addi v361 v359
  let c1_i32_227 : BitVec 32 := 1#32
  let v363 : BitVec 32 := Scalar.muli v362 c1_i32_227
  let v364 : BitVec 32 := Scalar.addi c0_i32_228 v363
  v364.toNat
def k0_off2 (d0 : Dev nD) : Fin 2 → Nat :=
  let c128_i32 : BitVec 32 := 128#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c128_i32 v29
  let v413 : Index := Scalar.indexCast v30
  let c0_280 : Index := 0#32
  ![v413.toNat, 0]
def k0_off3 (d0 : Dev nD) (c1_i32_290 : BitVec 32) : Fin 2 → Nat :=
  let c128_i32 : BitVec 32 := 128#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c128_i32 v29
  let c32_i32_297 : BitVec 32 := 32#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v432 : BitVec 32 := Scalar.addi v19 c1_i32_290
  let c4_i32_291 : BitVec 32 := 4#32
  let c0_i32_292 : BitVec 32 := 0#32
  let v433 : BitVec 1 := Scalar.cmpi .eq c4_i32_291 c0_i32_292
  let c1_i32_293 : BitVec 32 := 1#32
  let v434 : BitVec 32 := Scalar.select v433 c1_i32_293 c4_i32_291
  let v435 : BitVec 32 := Scalar.remsi v432 v434
  let c0_i32_295 : BitVec 32 := 0#32
  let v437 : BitVec 1 := Scalar.cmpi .slt v435 c0_i32_295
  let c0_i32_296 : BitVec 32 := 0#32
  let v438 : BitVec 1 := Scalar.cmpi .slt v434 c0_i32_296
  let v439 : BitVec 1 := Scalar.xori v437 v438
  let c0_i32_294 : BitVec 32 := 0#32
  let v436 : BitVec 1 := Scalar.cmpi .ne v435 c0_i32_294
  let v440 : BitVec 1 := Scalar.andi v439 v436
  let v441 : BitVec 32 := Scalar.addi v435 v434
  let v442 : BitVec 32 := Scalar.select v440 v441 v435
  let v443 : BitVec 32 := Scalar.muli c32_i32_297 v442
  let v444 : BitVec 32 := Scalar.addi v30 v443
  let c0_i32_305 : BitVec 32 := 0#32
  ![v444.toNat, 0]
def k0_dev18 (d0 : Dev nD) : Nat :=
  let c0_i32_302 : BitVec 32 := 0#32
  let c8_i32_298 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_290 : BitVec 32 := 1#32
  let v432 : BitVec 32 := Scalar.addi v19 c1_i32_290
  let c4_i32_291 : BitVec 32 := 4#32
  let c0_i32_292 : BitVec 32 := 0#32
  let v433 : BitVec 1 := Scalar.cmpi .eq c4_i32_291 c0_i32_292
  let c1_i32_293 : BitVec 32 := 1#32
  let v434 : BitVec 32 := Scalar.select v433 c1_i32_293 c4_i32_291
  let v435 : BitVec 32 := Scalar.remsi v432 v434
  let c0_i32_295 : BitVec 32 := 0#32
  let v437 : BitVec 1 := Scalar.cmpi .slt v435 c0_i32_295
  let c0_i32_296 : BitVec 32 := 0#32
  let v438 : BitVec 1 := Scalar.cmpi .slt v434 c0_i32_296
  let v439 : BitVec 1 := Scalar.xori v437 v438
  let c0_i32_294 : BitVec 32 := 0#32
  let v436 : BitVec 1 := Scalar.cmpi .ne v435 c0_i32_294
  let v440 : BitVec 1 := Scalar.andi v439 v436
  let v441 : BitVec 32 := Scalar.addi v435 v434
  let v442 : BitVec 32 := Scalar.select v440 v441 v435
  let v445 : BitVec 32 := Scalar.muli c8_i32_298 v442
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v446 : BitVec 32 := Scalar.addi v445 v29
  let c1_i32_301 : BitVec 32 := 1#32
  let v447 : BitVec 32 := Scalar.muli v446 c1_i32_301
  let v448 : BitVec 32 := Scalar.addi c0_i32_302 v447
  v448.toNat
def k0_dev19 (d0 : Dev nD) : Nat :=
  let c0_i32_318 : BitVec 32 := 0#32
  let c8_i32_314 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_306 : BitVec 32 := 2#32
  let v455 : BitVec 32 := Scalar.addi v19 c2_i32_306
  let c4_i32_307 : BitVec 32 := 4#32
  let c0_i32_308 : BitVec 32 := 0#32
  let v456 : BitVec 1 := Scalar.cmpi .eq c4_i32_307 c0_i32_308
  let c1_i32_309 : BitVec 32 := 1#32
  let v457 : BitVec 32 := Scalar.select v456 c1_i32_309 c4_i32_307
  let v458 : BitVec 32 := Scalar.remsi v455 v457
  let c0_i32_311 : BitVec 32 := 0#32
  let v460 : BitVec 1 := Scalar.cmpi .slt v458 c0_i32_311
  let c0_i32_312 : BitVec 32 := 0#32
  let v461 : BitVec 1 := Scalar.cmpi .slt v457 c0_i32_312
  let v462 : BitVec 1 := Scalar.xori v460 v461
  let c0_i32_310 : BitVec 32 := 0#32
  let v459 : BitVec 1 := Scalar.cmpi .ne v458 c0_i32_310
  let v463 : BitVec 1 := Scalar.andi v462 v459
  let v464 : BitVec 32 := Scalar.addi v458 v457
  let v465 : BitVec 32 := Scalar.select v463 v464 v458
  let v468 : BitVec 32 := Scalar.muli c8_i32_314 v465
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v469 : BitVec 32 := Scalar.addi v468 v29
  let c1_i32_317 : BitVec 32 := 1#32
  let v470 : BitVec 32 := Scalar.muli v469 c1_i32_317
  let v471 : BitVec 32 := Scalar.addi c0_i32_318 v470
  v471.toNat
def k0_dev20 (d0 : Dev nD) : Nat :=
  let c0_i32_334 : BitVec 32 := 0#32
  let c8_i32_330 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_322 : BitVec 32 := 3#32
  let v478 : BitVec 32 := Scalar.addi v19 c3_i32_322
  let c4_i32_323 : BitVec 32 := 4#32
  let c0_i32_324 : BitVec 32 := 0#32
  let v479 : BitVec 1 := Scalar.cmpi .eq c4_i32_323 c0_i32_324
  let c1_i32_325 : BitVec 32 := 1#32
  let v480 : BitVec 32 := Scalar.select v479 c1_i32_325 c4_i32_323
  let v481 : BitVec 32 := Scalar.remsi v478 v480
  let c0_i32_327 : BitVec 32 := 0#32
  let v483 : BitVec 1 := Scalar.cmpi .slt v481 c0_i32_327
  let c0_i32_328 : BitVec 32 := 0#32
  let v484 : BitVec 1 := Scalar.cmpi .slt v480 c0_i32_328
  let v485 : BitVec 1 := Scalar.xori v483 v484
  let c0_i32_326 : BitVec 32 := 0#32
  let v482 : BitVec 1 := Scalar.cmpi .ne v481 c0_i32_326
  let v486 : BitVec 1 := Scalar.andi v485 v482
  let v487 : BitVec 32 := Scalar.addi v481 v480
  let v488 : BitVec 32 := Scalar.select v486 v487 v481
  let v491 : BitVec 32 := Scalar.muli c8_i32_330 v488
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v492 : BitVec 32 := Scalar.addi v491 v29
  let c1_i32_333 : BitVec 32 := 1#32
  let v493 : BitVec 32 := Scalar.muli v492 c1_i32_333
  let v494 : BitVec 32 := Scalar.addi c0_i32_334 v493
  v494.toNat
def k0_off4 (d0 : Dev nD) : Fin 2 → Nat :=
  let c128_i32 : BitVec 32 := 128#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c128_i32 v29
  let c32_i32_11 : BitVec 32 := 32#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v31 : BitVec 32 := Scalar.muli c32_i32_11 v19
  let v32 : BitVec 32 := Scalar.addi v30 v31
  let v519 : Index := Scalar.indexCast v32
  let c0_358 : Index := 0#32
  ![v519.toNat, 0]
def k0_off5 (d0 : Dev nD) : Fin 2 → Nat :=
  let c128_i32 : BitVec 32 := 128#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c128_i32 v29
  let c32_i32_11 : BitVec 32 := 32#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v31 : BitVec 32 := Scalar.muli c32_i32_11 v19
  let v32 : BitVec 32 := Scalar.addi v30 v31
  let c0_i32_376 : BitVec 32 := 0#32
  ![v32.toNat, 0]
def k0_dev21 (d0 : Dev nD) : Nat :=
  let c0_i32_375 : BitVec 32 := 0#32
  let c8_i32_371 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_364 : BitVec 32 := 1#32
  let v530 : BitVec 32 := Scalar.addi v19 c1_i32_364
  let c4_i32_365 : BitVec 32 := 4#32
  let c0_i32_366 : BitVec 32 := 0#32
  let v531 : BitVec 1 := Scalar.cmpi .eq c4_i32_365 c0_i32_366
  let c1_i32_367 : BitVec 32 := 1#32
  let v532 : BitVec 32 := Scalar.select v531 c1_i32_367 c4_i32_365
  let v533 : BitVec 32 := Scalar.remsi v530 v532
  let c0_i32_369 : BitVec 32 := 0#32
  let v535 : BitVec 1 := Scalar.cmpi .slt v533 c0_i32_369
  let c0_i32_370 : BitVec 32 := 0#32
  let v536 : BitVec 1 := Scalar.cmpi .slt v532 c0_i32_370
  let v537 : BitVec 1 := Scalar.xori v535 v536
  let c0_i32_368 : BitVec 32 := 0#32
  let v534 : BitVec 1 := Scalar.cmpi .ne v533 c0_i32_368
  let v538 : BitVec 1 := Scalar.andi v537 v534
  let v539 : BitVec 32 := Scalar.addi v533 v532
  let v540 : BitVec 32 := Scalar.select v538 v539 v533
  let v541 : BitVec 32 := Scalar.muli c8_i32_371 v540
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v542 : BitVec 32 := Scalar.addi v541 v29
  let c1_i32_374 : BitVec 32 := 1#32
  let v543 : BitVec 32 := Scalar.muli v542 c1_i32_374
  let v544 : BitVec 32 := Scalar.addi c0_i32_375 v543
  v544.toNat
def k0_dev22 (d0 : Dev nD) : Nat :=
  let c0_i32_389 : BitVec 32 := 0#32
  let c8_i32_385 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_378 : BitVec 32 := 2#32
  let v551 : BitVec 32 := Scalar.addi v19 c2_i32_378
  let c4_i32_379 : BitVec 32 := 4#32
  let c0_i32_380 : BitVec 32 := 0#32
  let v552 : BitVec 1 := Scalar.cmpi .eq c4_i32_379 c0_i32_380
  let c1_i32_381 : BitVec 32 := 1#32
  let v553 : BitVec 32 := Scalar.select v552 c1_i32_381 c4_i32_379
  let v554 : BitVec 32 := Scalar.remsi v551 v553
  let c0_i32_383 : BitVec 32 := 0#32
  let v556 : BitVec 1 := Scalar.cmpi .slt v554 c0_i32_383
  let c0_i32_384 : BitVec 32 := 0#32
  let v557 : BitVec 1 := Scalar.cmpi .slt v553 c0_i32_384
  let v558 : BitVec 1 := Scalar.xori v556 v557
  let c0_i32_382 : BitVec 32 := 0#32
  let v555 : BitVec 1 := Scalar.cmpi .ne v554 c0_i32_382
  let v559 : BitVec 1 := Scalar.andi v558 v555
  let v560 : BitVec 32 := Scalar.addi v554 v553
  let v561 : BitVec 32 := Scalar.select v559 v560 v554
  let v562 : BitVec 32 := Scalar.muli c8_i32_385 v561
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v563 : BitVec 32 := Scalar.addi v562 v29
  let c1_i32_388 : BitVec 32 := 1#32
  let v564 : BitVec 32 := Scalar.muli v563 c1_i32_388
  let v565 : BitVec 32 := Scalar.addi c0_i32_389 v564
  v565.toNat
def k0_dev23 (d0 : Dev nD) : Nat :=
  let c0_i32_403 : BitVec 32 := 0#32
  let c8_i32_399 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_392 : BitVec 32 := 3#32
  let v572 : BitVec 32 := Scalar.addi v19 c3_i32_392
  let c4_i32_393 : BitVec 32 := 4#32
  let c0_i32_394 : BitVec 32 := 0#32
  let v573 : BitVec 1 := Scalar.cmpi .eq c4_i32_393 c0_i32_394
  let c1_i32_395 : BitVec 32 := 1#32
  let v574 : BitVec 32 := Scalar.select v573 c1_i32_395 c4_i32_393
  let v575 : BitVec 32 := Scalar.remsi v572 v574
  let c0_i32_397 : BitVec 32 := 0#32
  let v577 : BitVec 1 := Scalar.cmpi .slt v575 c0_i32_397
  let c0_i32_398 : BitVec 32 := 0#32
  let v578 : BitVec 1 := Scalar.cmpi .slt v574 c0_i32_398
  let v579 : BitVec 1 := Scalar.xori v577 v578
  let c0_i32_396 : BitVec 32 := 0#32
  let v576 : BitVec 1 := Scalar.cmpi .ne v575 c0_i32_396
  let v580 : BitVec 1 := Scalar.andi v579 v576
  let v581 : BitVec 32 := Scalar.addi v575 v574
  let v582 : BitVec 32 := Scalar.select v580 v581 v575
  let v583 : BitVec 32 := Scalar.muli c8_i32_399 v582
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v584 : BitVec 32 := Scalar.addi v583 v29
  let c1_i32_402 : BitVec 32 := 1#32
  let v585 : BitVec 32 := Scalar.muli v584 c1_i32_402
  let v586 : BitVec 32 := Scalar.addi c0_i32_403 v585
  v586.toNat
def k0_off6 (d0 : Dev nD) : Fin 2 → Nat :=
  let c128_i32 : BitVec 32 := 128#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let v30 : BitVec 32 := Scalar.muli c128_i32 v29
  let c0_i32_451 : BitVec 32 := 0#32
  ![v30.toNat, 0]
def k0_dev24 (d0 : Dev nD) : Nat :=
  let c0_i32_450 : BitVec 32 := 0#32
  let c8_i32_439 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v623 : BitVec 32 := Scalar.muli c8_i32_439 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c1_i32_440 : BitVec 32 := 1#32
  let v624 : BitVec 32 := Scalar.addi v29 c1_i32_440
  let c8_i32_441 : BitVec 32 := 8#32
  let c0_i32_442 : BitVec 32 := 0#32
  let v625 : BitVec 1 := Scalar.cmpi .eq c8_i32_441 c0_i32_442
  let c1_i32_443 : BitVec 32 := 1#32
  let v626 : BitVec 32 := Scalar.select v625 c1_i32_443 c8_i32_441
  let v627 : BitVec 32 := Scalar.remsi v624 v626
  let c0_i32_445 : BitVec 32 := 0#32
  let v629 : BitVec 1 := Scalar.cmpi .slt v627 c0_i32_445
  let c0_i32_446 : BitVec 32 := 0#32
  let v630 : BitVec 1 := Scalar.cmpi .slt v626 c0_i32_446
  let v631 : BitVec 1 := Scalar.xori v629 v630
  let c0_i32_444 : BitVec 32 := 0#32
  let v628 : BitVec 1 := Scalar.cmpi .ne v627 c0_i32_444
  let v632 : BitVec 1 := Scalar.andi v631 v628
  let v633 : BitVec 32 := Scalar.addi v627 v626
  let v634 : BitVec 32 := Scalar.select v632 v633 v627
  let v635 : BitVec 32 := Scalar.addi v623 v634
  let c1_i32_449 : BitVec 32 := 1#32
  let v636 : BitVec 32 := Scalar.muli v635 c1_i32_449
  let v637 : BitVec 32 := Scalar.addi c0_i32_450 v636
  v637.toNat
def k0_dev25 (d0 : Dev nD) : Nat :=
  let c0_i32_464 : BitVec 32 := 0#32
  let c8_i32_453 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v644 : BitVec 32 := Scalar.muli c8_i32_453 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c2_i32_454 : BitVec 32 := 2#32
  let v645 : BitVec 32 := Scalar.addi v29 c2_i32_454
  let c8_i32_455 : BitVec 32 := 8#32
  let c0_i32_456 : BitVec 32 := 0#32
  let v646 : BitVec 1 := Scalar.cmpi .eq c8_i32_455 c0_i32_456
  let c1_i32_457 : BitVec 32 := 1#32
  let v647 : BitVec 32 := Scalar.select v646 c1_i32_457 c8_i32_455
  let v648 : BitVec 32 := Scalar.remsi v645 v647
  let c0_i32_459 : BitVec 32 := 0#32
  let v650 : BitVec 1 := Scalar.cmpi .slt v648 c0_i32_459
  let c0_i32_460 : BitVec 32 := 0#32
  let v651 : BitVec 1 := Scalar.cmpi .slt v647 c0_i32_460
  let v652 : BitVec 1 := Scalar.xori v650 v651
  let c0_i32_458 : BitVec 32 := 0#32
  let v649 : BitVec 1 := Scalar.cmpi .ne v648 c0_i32_458
  let v653 : BitVec 1 := Scalar.andi v652 v649
  let v654 : BitVec 32 := Scalar.addi v648 v647
  let v655 : BitVec 32 := Scalar.select v653 v654 v648
  let v656 : BitVec 32 := Scalar.addi v644 v655
  let c1_i32_463 : BitVec 32 := 1#32
  let v657 : BitVec 32 := Scalar.muli v656 c1_i32_463
  let v658 : BitVec 32 := Scalar.addi c0_i32_464 v657
  v658.toNat
def k0_dev26 (d0 : Dev nD) : Nat :=
  let c0_i32_478 : BitVec 32 := 0#32
  let c8_i32_467 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v665 : BitVec 32 := Scalar.muli c8_i32_467 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c3_i32_468 : BitVec 32 := 3#32
  let v666 : BitVec 32 := Scalar.addi v29 c3_i32_468
  let c8_i32_469 : BitVec 32 := 8#32
  let c0_i32_470 : BitVec 32 := 0#32
  let v667 : BitVec 1 := Scalar.cmpi .eq c8_i32_469 c0_i32_470
  let c1_i32_471 : BitVec 32 := 1#32
  let v668 : BitVec 32 := Scalar.select v667 c1_i32_471 c8_i32_469
  let v669 : BitVec 32 := Scalar.remsi v666 v668
  let c0_i32_473 : BitVec 32 := 0#32
  let v671 : BitVec 1 := Scalar.cmpi .slt v669 c0_i32_473
  let c0_i32_474 : BitVec 32 := 0#32
  let v672 : BitVec 1 := Scalar.cmpi .slt v668 c0_i32_474
  let v673 : BitVec 1 := Scalar.xori v671 v672
  let c0_i32_472 : BitVec 32 := 0#32
  let v670 : BitVec 1 := Scalar.cmpi .ne v669 c0_i32_472
  let v674 : BitVec 1 := Scalar.andi v673 v670
  let v675 : BitVec 32 := Scalar.addi v669 v668
  let v676 : BitVec 32 := Scalar.select v674 v675 v669
  let v677 : BitVec 32 := Scalar.addi v665 v676
  let c1_i32_477 : BitVec 32 := 1#32
  let v678 : BitVec 32 := Scalar.muli v677 c1_i32_477
  let v679 : BitVec 32 := Scalar.addi c0_i32_478 v678
  v679.toNat
def k0_dev27 (d0 : Dev nD) : Nat :=
  let c0_i32_492 : BitVec 32 := 0#32
  let c8_i32_481 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v686 : BitVec 32 := Scalar.muli c8_i32_481 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c4_i32_482 : BitVec 32 := 4#32
  let v687 : BitVec 32 := Scalar.addi v29 c4_i32_482
  let c8_i32_483 : BitVec 32 := 8#32
  let c0_i32_484 : BitVec 32 := 0#32
  let v688 : BitVec 1 := Scalar.cmpi .eq c8_i32_483 c0_i32_484
  let c1_i32_485 : BitVec 32 := 1#32
  let v689 : BitVec 32 := Scalar.select v688 c1_i32_485 c8_i32_483
  let v690 : BitVec 32 := Scalar.remsi v687 v689
  let c0_i32_487 : BitVec 32 := 0#32
  let v692 : BitVec 1 := Scalar.cmpi .slt v690 c0_i32_487
  let c0_i32_488 : BitVec 32 := 0#32
  let v693 : BitVec 1 := Scalar.cmpi .slt v689 c0_i32_488
  let v694 : BitVec 1 := Scalar.xori v692 v693
  let c0_i32_486 : BitVec 32 := 0#32
  let v691 : BitVec 1 := Scalar.cmpi .ne v690 c0_i32_486
  let v695 : BitVec 1 := Scalar.andi v694 v691
  let v696 : BitVec 32 := Scalar.addi v690 v689
  let v697 : BitVec 32 := Scalar.select v695 v696 v690
  let v698 : BitVec 32 := Scalar.addi v686 v697
  let c1_i32_491 : BitVec 32 := 1#32
  let v699 : BitVec 32 := Scalar.muli v698 c1_i32_491
  let v700 : BitVec 32 := Scalar.addi c0_i32_492 v699
  v700.toNat
def k0_dev28 (d0 : Dev nD) : Nat :=
  let c0_i32_506 : BitVec 32 := 0#32
  let c8_i32_495 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v707 : BitVec 32 := Scalar.muli c8_i32_495 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c5_i32_496 : BitVec 32 := 5#32
  let v708 : BitVec 32 := Scalar.addi v29 c5_i32_496
  let c8_i32_497 : BitVec 32 := 8#32
  let c0_i32_498 : BitVec 32 := 0#32
  let v709 : BitVec 1 := Scalar.cmpi .eq c8_i32_497 c0_i32_498
  let c1_i32_499 : BitVec 32 := 1#32
  let v710 : BitVec 32 := Scalar.select v709 c1_i32_499 c8_i32_497
  let v711 : BitVec 32 := Scalar.remsi v708 v710
  let c0_i32_501 : BitVec 32 := 0#32
  let v713 : BitVec 1 := Scalar.cmpi .slt v711 c0_i32_501
  let c0_i32_502 : BitVec 32 := 0#32
  let v714 : BitVec 1 := Scalar.cmpi .slt v710 c0_i32_502
  let v715 : BitVec 1 := Scalar.xori v713 v714
  let c0_i32_500 : BitVec 32 := 0#32
  let v712 : BitVec 1 := Scalar.cmpi .ne v711 c0_i32_500
  let v716 : BitVec 1 := Scalar.andi v715 v712
  let v717 : BitVec 32 := Scalar.addi v711 v710
  let v718 : BitVec 32 := Scalar.select v716 v717 v711
  let v719 : BitVec 32 := Scalar.addi v707 v718
  let c1_i32_505 : BitVec 32 := 1#32
  let v720 : BitVec 32 := Scalar.muli v719 c1_i32_505
  let v721 : BitVec 32 := Scalar.addi c0_i32_506 v720
  v721.toNat
def k0_dev29 (d0 : Dev nD) : Nat :=
  let c0_i32_520 : BitVec 32 := 0#32
  let c8_i32_509 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v728 : BitVec 32 := Scalar.muli c8_i32_509 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c6_i32_510 : BitVec 32 := 6#32
  let v729 : BitVec 32 := Scalar.addi v29 c6_i32_510
  let c8_i32_511 : BitVec 32 := 8#32
  let c0_i32_512 : BitVec 32 := 0#32
  let v730 : BitVec 1 := Scalar.cmpi .eq c8_i32_511 c0_i32_512
  let c1_i32_513 : BitVec 32 := 1#32
  let v731 : BitVec 32 := Scalar.select v730 c1_i32_513 c8_i32_511
  let v732 : BitVec 32 := Scalar.remsi v729 v731
  let c0_i32_515 : BitVec 32 := 0#32
  let v734 : BitVec 1 := Scalar.cmpi .slt v732 c0_i32_515
  let c0_i32_516 : BitVec 32 := 0#32
  let v735 : BitVec 1 := Scalar.cmpi .slt v731 c0_i32_516
  let v736 : BitVec 1 := Scalar.xori v734 v735
  let c0_i32_514 : BitVec 32 := 0#32
  let v733 : BitVec 1 := Scalar.cmpi .ne v732 c0_i32_514
  let v737 : BitVec 1 := Scalar.andi v736 v733
  let v738 : BitVec 32 := Scalar.addi v732 v731
  let v739 : BitVec 32 := Scalar.select v737 v738 v732
  let v740 : BitVec 32 := Scalar.addi v728 v739
  let c1_i32_519 : BitVec 32 := 1#32
  let v741 : BitVec 32 := Scalar.muli v740 c1_i32_519
  let v742 : BitVec 32 := Scalar.addi c0_i32_520 v741
  v742.toNat
def k0_dev30 (d0 : Dev nD) : Nat :=
  let c0_i32_534 : BitVec 32 := 0#32
  let c8_i32_523 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v749 : BitVec 32 := Scalar.muli c8_i32_523 v19
  let c8_i32_5 : BitVec 32 := 8#32
  let c0_i32_6 : BitVec 32 := 0#32
  let v20 : BitVec 1 := Scalar.cmpi .eq c8_i32_5 c0_i32_6
  let c1_i32_7 : BitVec 32 := 1#32
  let v21 : BitVec 32 := Scalar.select v20 c1_i32_7 c8_i32_5
  let v22 : BitVec 32 := Scalar.remsi v2 v21
  let c0_i32_9 : BitVec 32 := 0#32
  let v24 : BitVec 1 := Scalar.cmpi .slt v22 c0_i32_9
  let c0_i32_10 : BitVec 32 := 0#32
  let v25 : BitVec 1 := Scalar.cmpi .slt v21 c0_i32_10
  let v26 : BitVec 1 := Scalar.xori v24 v25
  let c0_i32_8 : BitVec 32 := 0#32
  let v23 : BitVec 1 := Scalar.cmpi .ne v22 c0_i32_8
  let v27 : BitVec 1 := Scalar.andi v26 v23
  let v28 : BitVec 32 := Scalar.addi v22 v21
  let v29 : BitVec 32 := Scalar.select v27 v28 v22
  let c7_i32_524 : BitVec 32 := 7#32
  let v750 : BitVec 32 := Scalar.addi v29 c7_i32_524
  let c8_i32_525 : BitVec 32 := 8#32
  let c0_i32_526 : BitVec 32 := 0#32
  let v751 : BitVec 1 := Scalar.cmpi .eq c8_i32_525 c0_i32_526
  let c1_i32_527 : BitVec 32 := 1#32
  let v752 : BitVec 32 := Scalar.select v751 c1_i32_527 c8_i32_525
  let v753 : BitVec 32 := Scalar.remsi v750 v752
  let c0_i32_529 : BitVec 32 := 0#32
  let v755 : BitVec 1 := Scalar.cmpi .slt v753 c0_i32_529
  let c0_i32_530 : BitVec 32 := 0#32
  let v756 : BitVec 1 := Scalar.cmpi .slt v752 c0_i32_530
  let v757 : BitVec 1 := Scalar.xori v755 v756
  let c0_i32_528 : BitVec 32 := 0#32
  let v754 : BitVec 1 := Scalar.cmpi .ne v753 c0_i32_528
  let v758 : BitVec 1 := Scalar.andi v757 v754
  let v759 : BitVec 32 := Scalar.addi v753 v752
  let v760 : BitVec 32 := Scalar.select v758 v759 v753
  let v761 : BitVec 32 := Scalar.addi v749 v760
  let c1_i32_533 : BitVec 32 := 1#32
  let v762 : BitVec 32 := Scalar.muli v761 c1_i32_533
  let v763 : BitVec 32 := Scalar.addi c0_i32_534 v762
  v763.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S131072x512 : Shape := ⟨2, ![131072, 512]⟩
abbrev S1024 : Shape := ⟨1, ![1024]⟩
abbrev S_ : Shape := ⟨0, ![]⟩
abbrev S1024x1 : Shape := ⟨2, ![1024, 1]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S131072x512, .bf16⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x512, .bf16⟩
  | _, _ => ⟨S131072x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Topology.lean ====
/-
The 32 devices as four groups of eight, and the closed forms of the device numbers and row offsets that the
kernel computes from its own number.

Device `c` is member `c % 8` of group `c / 8`. The kernel talks along its row (the seven other members of the
group) and along its column (the same member of the three other groups). Sends are numbered from zero:
`d : Fin 7` along the row, `e : Fin 3` along the column.
-/
module

public import proofs.«01_k».proof.Proof.Gen.KernelIdeal
public import proofs.«01_k».proof.Proof.Gen.KernelIdeal.Skeleton

@[expose] public section

noncomputable section

namespace Cert.Lookup

open Cert.KernelIdeal Cert.KernelIdeal.Gen
open Idealize.ShloMosaic Idealize.SL.Sem

/-! ## Neighbours -/

/-- The member of `c`'s group that `c`'s send `d` along the row goes to. -/
def rp (c : Dev nD) (d : Fin 7) : Dev nD := ⟨8 * (c.val / 8) + (c.val % 8 + d.val + 1) % 8, by have := c.isLt; simp only [nD] at this ⊢; omega⟩
/-- The member of `c`'s group whose send `d` along the row comes to `c`. -/
def rm (c : Dev nD) (d : Fin 7) : Dev nD := ⟨8 * (c.val / 8) + (c.val % 8 + (7 - d.val)) % 8, by have := c.isLt; simp only [nD] at this ⊢; omega⟩
/-- The device of `c`'s column that `c`'s send `e` along the column goes to. -/
def cp (c : Dev nD) (e : Fin 3) : Dev nD := ⟨8 * ((c.val / 8 + e.val + 1) % 4) + c.val % 8, by have := c.isLt; simp only [nD] at this ⊢; omega⟩
/-- The device of `c`'s column whose send `e` along the column comes to `c`. -/
def cm (c : Dev nD) (e : Fin 3) : Dev nD := ⟨8 * ((c.val / 8 + (3 - e.val)) % 4) + c.val % 8, by have := c.isLt; simp only [nD] at this ⊢; omega⟩

theorem rm_rp (d : Fin 7) (c : Dev nD) : rm (rp c d) d = c := by revert c d; decide +kernel
theorem rp_rm (d : Fin 7) (c : Dev nD) : rp (rm c d) d = c := by revert c d; decide +kernel
theorem cm_cp (e : Fin 3) (c : Dev nD) : cm (cp c e) e = c := by revert c e; decide +kernel
theorem cp_cm (e : Fin 3) (c : Dev nD) : cp (cm c e) e = c := by revert c e; decide +kernel
/-- The sends back along the row and the column: who sends `d` to `c` is whom `c` sends `6 - d` to. -/
theorem rp_rev (c : Dev nD) (d : Fin 7) : rp c d.rev = rm c d := by revert c d; decide +kernel
theorem cp_rev (c : Dev nD) (e : Fin 3) : cp c e.rev = cm c e := by revert c e; decide +kernel
theorem rm_rev (c : Dev nD) (d : Fin 7) : rm c d.rev = rp c d := by rw [← rp_rev, Fin.rev_rev]
theorem cm_rev (c : Dev nD) (e : Fin 3) : cm c e.rev = cp c e := by rw [← cp_rev, Fin.rev_rev]

/-- Send `d` along the row, of every device at once, is a rearrangement of the devices. -/
def rowTurn (d : Fin 7) : Dev nD ≃ Dev nD := ⟨fun c => rp c d, fun c => rm c d, rm_rp d, rp_rm d⟩
/-- Send `e` along the column likewise. -/
def colTurn (e : Fin 3) : Dev nD ≃ Dev nD := ⟨fun c => cp c e, fun c => cm c e, cm_cp e, cp_cm e⟩

/-! ## Rows -/

/-- The first row of the 128 that device `t` sums over its group. -/
def sbLo (t : Dev nD) : ℕ := 128 * (t.val % 8)
/-- The first row of the 32 that device `t` sums over all devices. -/
def bkLo (t : Dev nD) : ℕ := 128 * (t.val % 8) + 32 * (t.val / 8)

theorem sbLo_le (t : Dev nD) : sbLo t + 128 ≤ 1024 := by unfold sbLo; omega
theorem bkLo_le (t : Dev nD) : bkLo t + 32 ≤ 1024 := by have := t.isLt; simp only [nD] at this; unfold bkLo; omega

/-! ## What the kernel computes -/

/-- The devices that the kernel's signals, and then its copies, along the row go to. -/
def sigRow (c : Dev nD) : Fin 7 → Dev nD := fun
  | 0 => ⟨k0_dev1 c, k0_dev1_lt c⟩ | 1 => ⟨k0_dev2 c, k0_dev2_lt c⟩ | 2 => ⟨k0_dev3 c, k0_dev3_lt c⟩ | 3 => ⟨k0_dev4 c, k0_dev4_lt c⟩
  | 4 => ⟨k0_dev5 c, k0_dev5_lt c⟩ | 5 => ⟨k0_dev6 c, k0_dev6_lt c⟩ | 6 => ⟨k0_dev7 c, k0_dev7_lt c⟩
def sigCol (c : Dev nD) : Fin 3 → Dev nD := fun
  | 0 => ⟨k0_dev8 c, k0_dev8_lt c⟩ | 1 => ⟨k0_dev9 c, k0_dev9_lt c⟩ | 2 => ⟨k0_dev10 c, k0_dev10_lt c⟩
def rsRow (c : Dev nD) : Fin 7 → Dev nD := fun
  | 0 => ⟨k0_dev11 c, k0_dev11_lt c⟩ | 1 => ⟨k0_dev12 c, k0_dev12_lt c⟩ | 2 => ⟨k0_dev13 c, k0_dev13_lt c⟩ | 3 => ⟨k0_dev14 c, k0_dev14_lt c⟩
  | 4 => ⟨k0_dev15 c, k0_dev15_lt c⟩ | 5 => ⟨k0_dev16 c, k0_dev16_lt c⟩ | 6 => ⟨k0_dev17 c, k0_dev17_lt c⟩
def rsCol (c : Dev nD) : Fin 3 → Dev nD := fun
  | 0 => ⟨k0_dev18 c, k0_dev18_lt c⟩ | 1 => ⟨k0_dev19 c, k0_dev19_lt c⟩ | 2 => ⟨k0_dev20 c, k0_dev20_lt c⟩
def agCol (c : Dev nD) : Fin 3 → Dev nD := fun
  | 0 => ⟨k0_dev21 c, k0_dev21_lt c⟩ | 1 => ⟨k0_dev22 c, k0_dev22_lt c⟩ | 2 => ⟨k0_dev23 c, k0_dev23_lt c⟩
def agRow (c : Dev nD) : Fin 7 → Dev nD := fun
  | 0 => ⟨k0_dev24 c, k0_dev24_lt c⟩ | 1 => ⟨k0_dev25 c, k0_dev25_lt c⟩ | 2 => ⟨k0_dev26 c, k0_dev26_lt c⟩ | 3 => ⟨k0_dev27 c, k0_dev27_lt c⟩
  | 4 => ⟨k0_dev28 c, k0_dev28_lt c⟩ | 5 => ⟨k0_dev29 c, k0_dev29_lt c⟩ | 6 => ⟨k0_dev30 c, k0_dev30_lt c⟩

theorem sigRow_eq (c : Dev nD) (d : Fin 7) : sigRow c d = rp c d := by revert c d; decide +kernel
theorem sigCol_eq (c : Dev nD) (e : Fin 3) : sigCol c e = cp c e := by revert c e; decide +kernel
theorem rsRow_eq (c : Dev nD) (d : Fin 7) : rsRow c d = rp c d := by revert c d; decide +kernel
theorem rsCol_eq (c : Dev nD) (e : Fin 3) : rsCol c e = cp c e := by revert c e; decide +kernel
theorem agCol_eq (c : Dev nD) (e : Fin 3) : agCol c e = cp c e := by revert c e; decide +kernel
theorem agRow_eq (c : Dev nD) (d : Fin 7) : agRow c d = rp c d := by revert c d; decide +kernel

theorem off1_eq (c : Dev nD) (d : Fin 7) : k0_off1 c (BitVec.ofNat 32 (1 + d.val)) = ![sbLo (rp c d), 0] := by
  funext a; revert c d a; decide +kernel
theorem off2_eq (c : Dev nD) : k0_off2 c = ![sbLo c, 0] := by funext a; revert c a; decide +kernel
theorem off3_eq (c : Dev nD) (e : Fin 3) : k0_off3 c (BitVec.ofNat 32 (1 + e.val)) = ![bkLo (cp c e), 0] := by
  funext a; revert c e a; decide +kernel
theorem off4_eq (c : Dev nD) : k0_off4 c = ![bkLo c, 0] := by funext a; revert c a; decide +kernel
theorem off5_eq (c : Dev nD) : k0_off5 c = ![bkLo c, 0] := by funext a; revert c a; decide +kernel
theorem off6_eq (c : Dev nD) : k0_off6 c = ![sbLo c, 0] := by funext a; revert c a; decide +kernel

/-- The device's own number as the word the kernel multiplies by 4096. -/
theorem me_word (c : Dev nD) : Scalar.remsi (Scalar.divsi (Dev.word c) 1#32) 32#32 = BitVec.ofNat 32 c.val := by revert c; decide +kernel

end Cert.Lookup

end
-- ==== Proof.Flat.lean ====
/-
The kernel body as one sequence of memory operations, the numbered copies of one phase as a fold over their number.

The printed body is cut into 28 windows and spells every copy out; here each phase is `seq f k`: operations `f d`
for `d = 0, 1, …` in order, then `k`. `body_flat` says that the printed body is this sequence, by unfolding.
-/
module

public import proofs.«01_k».proof.Proof.Topology

@[expose] public section

noncomputable section

namespace Cert.Lookup

open Cert.KernelIdeal Cert.KernelIdeal.Gen
open Idealize.ShloMosaic Idealize.ShloMosaic.TcCoe Idealize.SL.Sem

variable {F : FTy → Type} [FloatOps F]

/-- Programs of a TensorCore of this signature. -/
abbrev TProg (F : FTy → Type) [FloatOps F] : Type 1 := Prog (TpuEff nD τ sig (Elt F) Λ₀ .tc) PUnit

/-! ## The buffers and semaphores -/

abbrev tabM : Memref sig .tc .vmem S4096x512 .bf16 := Memref.whole cc0_stg0_0
abbrev idxM : Memref sig .tc .vmem S1024 .i32 := Memref.whole cc0_stg1_0
abbrev outM : Memref sig .tc .vmem S1024x512 .bf16 := Memref.whole cc0_stg2_0
abbrev rowM : Memref sig .tc .vmem S896x512 .bf16 := Memref.whole cc0_scratch0
abbrev colM : Memref sig .tc .vmem S96x512 .bf16 := Memref.whole cc0_scratch1

theorem hTab : tabM.IsWhole := Memref.isWhole_whole _
theorem hIdx : idxM.IsWhole := Memref.isWhole_whole _
theorem hOut : outM.IsWhole := Memref.isWhole_whole _
theorem hRow : rowM.IsWhole := Memref.isWhole_whole _
theorem hCol : colM.IsWhole := Memref.isWhole_whole _

/-- The runtime's barrier semaphore. -/
abbrev barS : Sem sig := (SemArray.scalar (sig.barrier 0 rfl) : Sems sig S_).sem

theorem sem8_inb (i : Fin 8) : ∀ a, (![i.val] : Fin 1 → ℕ) a + S1.size a ≤ S8.size a := by revert i; decide
theorem sem4_inb (i : Fin 4) : ∀ a, (![i.val] : Fin 1 → ℕ) a + S1.size a ≤ S4.size a := by revert i; decide
/-- Element `i` of an array of eight semaphores, of four. -/
def sem8 (a : DmaSems sig S8) (i : Fin 8) : DmaSem sig := ((a.slice (Rect.unit (s := S8) ![i.val] S1.size (sem8_inb i))).squeeze S_ squeezes_S1_S_).sem
def sem4 (a : DmaSems sig S4) (i : Fin 4) : DmaSem sig := ((a.slice (Rect.unit (s := S4) ![i.val] S1.size (sem4_inb i))).squeeze S_ squeezes_S1_S_).sem

/-! ## The slices -/

theorem rowSlot_inb (d : Fin 7) : ∀ a, (![128 * d.val, 0] : Fin 2 → ℕ) a + S128x512.size a ≤ S896x512.size a := by revert d; decide
theorem colSlot_inb (e : Fin 3) : ∀ a, (![32 * e.val, 0] : Fin 2 → ℕ) a + S32x512.size a ≤ S96x512.size a := by revert e; decide

theorem rowSlot_words (d : Fin 7) : (Rect.unit (s := S896x512) ![128 * d.val, 0] S128x512.size (rowSlot_inb d)).WholeWords (EltTy.packing .bf16) := by
  revert d; decide +kernel
theorem colSlot_words (e : Fin 3) : (Rect.unit (s := S96x512) ![32 * e.val, 0] S32x512.size (colSlot_inb e)).WholeWords (EltTy.packing .bf16) := by
  revert e; decide +kernel

/-- Landing slot `d` of the row exchange, slot `e` of the column exchange. -/
abbrev rowRect (d : Fin 7) : Rect S896x512 := Rect.unit (s := S896x512) ![128 * d.val, 0] S128x512.size (rowSlot_inb d)
abbrev colRect (e : Fin 3) : Rect S96x512 := Rect.unit (s := S96x512) ![32 * e.val, 0] S32x512.size (colSlot_inb e)
/-- The slices of the result that the kernel copies, loads and stores, named by the printed offsets. -/
abbrev rect1 (c : Dev nD) (d : Fin 7) : Rect S1024x512 := Rect.unit (s := S1024x512) (k0_off1 c (BitVec.ofNat 32 (1 + d.val))) S128x512.size (k0_off1_inb c d)
abbrev rect2 (c : Dev nD) : Rect S1024x512 := Rect.unit (s := S1024x512) (k0_off2 c) S128x512.size (k0_off2_inb c)
abbrev rect3 (c : Dev nD) (e : Fin 3) : Rect S1024x512 := Rect.unit (s := S1024x512) (k0_off3 c (BitVec.ofNat 32 (1 + e.val))) S32x512.size (k0_off3_inb c e)
abbrev rect4 (c : Dev nD) : Rect S1024x512 := Rect.unit (s := S1024x512) (k0_off4 c) S32x512.size (k0_off4_inb c)
abbrev rect5 (c : Dev nD) : Rect S1024x512 := Rect.unit (s := S1024x512) (k0_off5 c) S32x512.size (k0_off5_inb c)
abbrev rect6 (c : Dev nD) : Rect S1024x512 := Rect.unit (s := S1024x512) (k0_off6 c) S128x512.size (k0_off6_inb c)

abbrev rowSlot (d : Fin 7) : Memref sig .tc .vmem S128x512 .bf16 := rowM.slice (rowRect d) (fun _ => rfl)
abbrev colSlot (e : Fin 3) : Memref sig .tc .vmem S32x512 .bf16 := colM.slice (colRect e) (fun _ => rfl)
abbrev out1 (c : Dev nD) (d : Fin 7) : Memref sig .tc .vmem S128x512 .bf16 := outM.slice (rect1 c d) (fun _ => rfl)
abbrev out3 (c : Dev nD) (e : Fin 3) : Memref sig .tc .vmem S32x512 .bf16 := outM.slice (rect3 c e) (fun _ => rfl)
abbrev out5 (c : Dev nD) : Memref sig .tc .vmem S32x512 .bf16 := outM.slice (rect5 c) (fun _ => rfl)
abbrev out6 (c : Dev nD) : Memref sig .tc .vmem S128x512 .bf16 := outM.slice (rect6 c) (fun _ => rfl)

/-! ## The operations -/

/-- Operations `f i` for `i` over a list in order, then `k`. -/
def seqL {ι : Type} (l : List ι) (f : ι → TProg F → TProg F) (k : TProg F) : TProg F := l.foldr f k

abbrev seven : List (Fin 7) := [0, 1, 2, 3, 4, 5, 6]
abbrev three : List (Fin 3) := [0, 1, 2]

def sigRowOp (c : Dev nD) (d : Fin 7) (k : TProg F) : TProg F := .op (.semSignal (sigRow c d, .tc) barS (1#32 : BitVec 32).toInt) fun _ => k
def sigColOp (c : Dev nD) (e : Fin 3) (k : TProg F) : TProg F := .op (.semSignal (sigCol c e, .tc) barS (1#32 : BitVec 32).toInt) fun _ => k

/-- Row exchange: copy the group member's 128 rows into slot `d` there. -/
def rsRowTo (c n : Dev nD) (d : Fin 7) (k : TProg F) : TProg F :=
  .op (.enqueueDma (out1 c d) (.remote (Dev.tc n) (rowSlot d) (.dma (sem8 cc0_scratch2 d.succ))) (.dma (sem8 cc0_scratch3 d.succ))
    (hOut.wordExact_slice rfl _ (k0_off1_wordsbf16 c d)) (hRow.wordExact_slice rfl _ (rowSlot_words d)) ⟨⟨rfl, Or.inl rfl⟩, trivial⟩) fun _ => k
def rsRowOp (c : Dev nD) (d : Fin 7) (k : TProg F) : TProg F := rsRowTo c (rsRow c d) d k
def rsRowWait (c : Dev nD) (d : Fin 7) (k : TProg F) : TProg F :=
  .op (.waitDma2 (sem8 cc0_scratch3 d.succ) (out1 c d) (rowSlot d)
    (hOut.wordExact_slice rfl _ (k0_off1_wordsbf16 c d)) (hRow.wordExact_slice rfl _ (rowSlot_words d))) fun _ => k
/-- Column exchange: copy the other group's 32 rows into slot `e` there. -/
def rsColTo (c n : Dev nD) (e : Fin 3) (k : TProg F) : TProg F :=
  .op (.enqueueDma (out3 c e) (.remote (Dev.tc n) (colSlot e) (.dma (sem4 cc0_scratch4 e.succ))) (.dma (sem4 cc0_scratch5 e.succ))
    (hOut.wordExact_slice rfl _ (k0_off3_wordsbf16 c e)) (hCol.wordExact_slice rfl _ (colSlot_words e)) ⟨⟨rfl, Or.inl rfl⟩, trivial⟩) fun _ => k
def rsColOp (c : Dev nD) (e : Fin 3) (k : TProg F) : TProg F := rsColTo c (rsCol c e) e k
def rsColWait (c : Dev nD) (e : Fin 3) (k : TProg F) : TProg F :=
  .op (.waitDma2 (sem4 cc0_scratch5 e.succ) (out3 c e) (colSlot e)
    (hOut.wordExact_slice rfl _ (k0_off3_wordsbf16 c e)) (hCol.wordExact_slice rfl _ (colSlot_words e))) fun _ => k
/-- Column gather: copy the summed 32 rows to the same rows of another group's device. -/
def agColTo (c n : Dev nD) (e : Fin 3) (k : TProg F) : TProg F :=
  .op (.enqueueDma (out5 c) (.remote (Dev.tc n) (out5 c) (.dma (sem4 cc0_scratch6 e.succ))) (.dma (sem4 cc0_scratch7 e.succ))
    (hOut.wordExact_slice rfl _ (k0_off5_wordsbf16 c)) (hOut.wordExact_slice rfl _ (k0_off5_wordsbf16 c)) ⟨⟨rfl, Or.inl rfl⟩, trivial⟩) fun _ => k
def agColOp (c : Dev nD) (e : Fin 3) (k : TProg F) : TProg F := agColTo c (agCol c e) e k
def agColWaitS (c : Dev nD) (e : Fin 3) (k : TProg F) : TProg F :=
  .op (.waitDma2 (sem4 cc0_scratch6 e.succ) (out5 c) (out5 c) (hOut.wordExact_slice rfl _ (k0_off5_wordsbf16 c)) (hOut.wordExact_slice rfl _ (k0_off5_wordsbf16 c))) fun _ => k
def agColWaitR (c : Dev nD) (e : Fin 3) (k : TProg F) : TProg F :=
  .op (.waitDma2 (sem4 cc0_scratch7 e.succ) (out5 c) (out5 c) (hOut.wordExact_slice rfl _ (k0_off5_wordsbf16 c)) (hOut.wordExact_slice rfl _ (k0_off5_wordsbf16 c))) fun _ => k
/-- Row gather: copy the 128 finished rows to the same rows of a group member. -/
def agRowTo (c n : Dev nD) (d : Fin 7) (k : TProg F) : TProg F :=
  .op (.enqueueDma (out6 c) (.remote (Dev.tc n) (out6 c) (.dma (sem8 cc0_scratch8 d.succ))) (.dma (sem8 cc0_scratch9 d.succ))
    (hOut.wordExact_slice rfl _ (k0_off6_wordsbf16 c)) (hOut.wordExact_slice rfl _ (k0_off6_wordsbf16 c)) ⟨⟨rfl, Or.inl rfl⟩, trivial⟩) fun _ => k
def agRowOp (c : Dev nD) (d : Fin 7) (k : TProg F) : TProg F := agRowTo c (agRow c d) d k
/-- The waits for the copies' departures, and for the gathered rows. -/
def rsRowWaitS (c : Dev nD) (d : Fin 7) (k : TProg F) : TProg F :=
  .op (.waitDma2 (sem8 cc0_scratch2 d.succ) (rowSlot d) (out1 c d) (hRow.wordExact_slice rfl _ (rowSlot_words d)) (hOut.wordExact_slice rfl _ (k0_off1_wordsbf16 c d))) fun _ => k
def rsColWaitS (c : Dev nD) (e : Fin 3) (k : TProg F) : TProg F :=
  .op (.waitDma2 (sem4 cc0_scratch4 e.succ) (colSlot e) (out3 c e) (hCol.wordExact_slice rfl _ (colSlot_words e)) (hOut.wordExact_slice rfl _ (k0_off3_wordsbf16 c e))) fun _ => k
def agRowWaitS (c : Dev nD) (d : Fin 7) (k : TProg F) : TProg F :=
  .op (.waitDma2 (sem8 cc0_scratch8 d.succ) (out6 c) (out6 c) (hOut.wordExact_slice rfl _ (k0_off6_wordsbf16 c)) (hOut.wordExact_slice rfl _ (k0_off6_wordsbf16 c))) fun _ => k
def agRowWaitR (c : Dev nD) (d : Fin 7) (k : TProg F) : TProg F :=
  .op (.waitDma2 (sem8 cc0_scratch9 d.succ) (out6 c) (out6 c) (hOut.wordExact_slice rfl _ (k0_off6_wordsbf16 c)) (hOut.wordExact_slice rfl _ (k0_off6_wordsbf16 c))) fun _ => k

/-- The device number as the kernel uses it. -/
abbrev meW (c : Dev nD) : BitVec 32 := Scalar.remsi (Scalar.divsi (Dev.word c) 1#32) 32#32

abbrev loIdx : Rect S1024 := Rect.unit (s := S1024) ![0] S1024.size inb_S1024_S1024_0
abbrev tabLo : Rect S4096x512 := Rect.unit (s := S4096x512) ![0, 0] S2048x512.size inb_S4096x512_S2048x512_0_0
abbrev tabHi : Rect S4096x512 := Rect.unit (s := S4096x512) ![2048, 0] S2048x512.size inb_S4096x512_S2048x512_2048_0
abbrev outAll : Rect S1024x512 := Rect.unit (s := S1024x512) ![0, 0] S1024x512.size inb_S1024x512_S1024x512_0_0

/-- The lookup in the device's own part of the table, stored over the whole result. -/
def lookupOps (c : Dev nD) (k : TProg F) : TProg F :=
  .op (.load idxM loIdx.toLoadRect (View.loadsAt_vmem h_S1024)) fun (i : Vec F S1024 .i32) =>
  .op (.load tabM tabLo.toLoadRect (View.loadsAt_vmem h_S2048x512)) fun (lo : Vec F S2048x512 .bf16) =>
  .op (.load tabM tabHi.toLoadRect (View.loadsAt_vmem h_S2048x512)) fun (hi : Vec F S2048x512 .bf16) =>
  .op (.load outM outAll.toLoadRect (View.loadsAt_vmem h_S1024x512)) fun _ =>
  .op (.store outM outAll (k0_pay4 (k0_pay2 (meW c) i lo) (k0_pay3 (meW c) i) hi) Finset.univ
    (View.stores_vmem h_S1024x512 (hOut.storeExact_slice rfl _ packedbf16_S1024x512_S1024x512_0_0) (fun _ => rfl)) (.inl rfl)) fun _ => k

/-- A load of slot `d` of the row buffer, of slot `e` of the column buffer. -/
def loadRow (d : Fin 7) (k : Vec F S128x512 .bf16 → TProg F) : TProg F := .op (.load rowM (rowRect d).toLoadRect (View.loadsAt_vmem h_S128x512)) k
def loadCol (e : Fin 3) (k : Vec F S32x512 .bf16 → TProg F) : TProg F := .op (.load colM (colRect e).toLoadRect (View.loadsAt_vmem h_S32x512)) k

/-- The sum over the group of the device's 128 rows. -/
def sumRowOps (c : Dev nD) (k : TProg F) : TProg F :=
  .op (.load outM (rect2 c).toLoadRect (View.loadsAt_vmem h_S128x512)) fun (v : Vec F S128x512 .bf16) =>
  loadRow 0 fun v0 => loadRow 1 fun v1 => loadRow 2 fun v2 => loadRow 3 fun v3 => loadRow 4 fun v4 => loadRow 5 fun v5 => loadRow 6 fun v6 =>
  .op (.load outM (rect2 c).toLoadRect (View.loadsAt_vmem h_S128x512)) fun _ =>
  .op (.store outM (rect2 c) (k0_pay5 v v0 v1 v2 v3 v4 v5 v6) Finset.univ
    (View.stores_vmem h_S128x512 (hOut.storeExact_slice rfl _ (k0_off2_packedbf16 c)) (fun _ => rfl)) (.inl rfl)) fun _ => k

/-- The sum over the column of the device's 32 rows. -/
def sumColOps (c : Dev nD) (k : TProg F) : TProg F :=
  .op (.load outM (rect4 c).toLoadRect (View.loadsAt_vmem h_S32x512)) fun (v : Vec F S32x512 .bf16) =>
  loadCol 0 fun v0 => loadCol 1 fun v1 => loadCol 2 fun v2 =>
  .op (.load outM (rect4 c).toLoadRect (View.loadsAt_vmem h_S32x512)) fun _ =>
  .op (.store outM (rect4 c) (k0_pay6 v v0 v1 v2) Finset.univ
    (View.stores_vmem h_S32x512 (hOut.storeExact_slice rfl _ (k0_off4_packedbf16 c)) (fun _ => rfl)) (.inl rfl)) fun _ => k

/-- The body of device `c`. -/
def flat (c : Dev nD) : TProg F :=
  seqL seven (sigRowOp c) <| seqL three (sigColOp c) <| lookupOps c <| .op (.semWait barS (10#32 : BitVec 32).toInt) fun _ =>
  seqL seven (rsRowOp c) <| seqL seven (rsRowWait c) <| sumRowOps c <|
  seqL three (rsColOp c) <| seqL three (rsColWait c) <| sumColOps c <|
  seqL three (agColOp c) <| seqL three (fun e k => agColWaitS c e (agColWaitR c e k)) <|
  seqL seven (agRowOp c) <| seqL seven (rsRowWaitS c) <| seqL three (rsColWaitS c) <|
  seqL seven (fun d k => agRowWaitS c d (agRowWaitR c d k)) (.ret ⟨⟩)

set_option maxRecDepth 65536 in
set_option maxHeartbeats 4000000 in
/-- The printed body reads the device's number and then is that sequence. -/
theorem body_flat :
    cc0_body (F := F) tabM hTab idxM hIdx outM hOut rowM hRow colM hCol
        cc0_scratch2 cc0_scratch3 cc0_scratch4 cc0_scratch5 cc0_scratch6 cc0_scratch7 cc0_scratch8 cc0_scratch9
      = .op .deviceId flat := by
  rfl

end Cert.Lookup

end
-- ==== Proof.Rows.lean ====
/-
Rows of the kernel's three bfloat16 buffers, all 512 wide, and what the buffers hold in the course of the run.

The contents are given by the 32 partial results `P c` (device `c`'s lookup in its own part of the table): the sum of
the group's partial results (`sumRow`), the sum over the column of those (`sumCol`), the result (`fin`), and what the
two landing buffers hold when every copy has landed (`rowFull`, `colFull`).
-/
module

public import proofs.«01_k».proof.Proof.Flat
public import Idealize.ShloMosaic.Lib.Pipeline.Value

@[expose] public section

noncomputable section

namespace Cert.Lookup

open Cert.KernelIdeal Cert.KernelIdeal.Gen
open Idealize.ShloMosaic Idealize.ShloMosaic.TcCoe Idealize.SL.Sem Idealize.ShloMosaic.Pipeline

variable {F : FTy → Type} [FloatOps F]

/-! ## Row sets -/

/-- The shape of a buffer of `N` rows. -/
abbrev mat (N : ℕ) : Shape := ⟨2, ![N, 512]⟩

/-- Rows `lo … lo + n - 1` of a buffer of `N` rows. -/
def rowsOf (N lo n : ℕ) : Finset (mat N).Idx := Finset.univ.filter fun i => lo ≤ (i 0).val ∧ (i 0).val < lo + n

theorem mem_rowsOf {N lo n : ℕ} {i : (mat N).Idx} : i ∈ rowsOf N lo n ↔ lo ≤ (i 0).val ∧ (i 0).val < lo + n := by
  unfold rowsOf; rw [Finset.mem_filter]; exact ⟨fun h => h.2, fun h => ⟨Finset.mem_univ _, h⟩⟩

/-- A printed slice of full rows is a set of rows. -/
theorem set_rows {N n lo : ℕ} {off : Fin 2 → ℕ} (h : off = ![lo, 0]) (inb : ∀ a, off a + (![n, 512] : Fin 2 → ℕ) a ≤ (mat N).size a) :
    (Rect.unit (s := mat N) off ![n, 512] inb).set = rowsOf N lo n := by
  subst h
  ext i
  rw [Rect.mem_set_unit, mem_rowsOf, Fin.forall_fin_two]
  have h1 : (i 1).val < 512 := (i 1).isLt
  simp only [Matrix.cons_val_zero, Matrix.cons_val_one, Nat.zero_add, Nat.zero_le, true_and]
  exact ⟨fun h => h.1, fun h => ⟨h, h1⟩⟩

theorem rowsOf_disjoint {N lo lo' n n' : ℕ} (h : lo + n ≤ lo' ∨ lo' + n' ≤ lo) : Disjoint (rowsOf N lo n) (rowsOf N lo' n') := by
  rw [Finset.disjoint_left]; intro i hi hi'; rw [mem_rowsOf] at hi hi'; omega

/-- The 128 rows that device `t` sums over its group, the 32 that it sums over all devices. -/
def SB (t : Dev nD) : Finset S1024x512.Idx := rowsOf 1024 (sbLo t) 128
def BK (t : Dev nD) : Finset S1024x512.Idx := rowsOf 1024 (bkLo t) 32
/-- Landing slots. -/
def RS (d : Fin 7) : Finset S896x512.Idx := rowsOf 896 (128 * d.val) 128
def CS (e : Fin 3) : Finset S96x512.Idx := rowsOf 96 (32 * e.val) 32

theorem set_rowSlot (d : Fin 7) : (rowSlot d).view.set = RS d := (View.set_slice_whole _ _).trans (set_rows rfl _)
theorem set_colSlot (e : Fin 3) : (colSlot e).view.set = CS e := (View.set_slice_whole _ _).trans (set_rows rfl _)
theorem set_out1 (c : Dev nD) (d : Fin 7) : (out1 c d).view.set = SB (rp c d) := (View.set_slice_whole _ _).trans (set_rows (off1_eq c d) _)
theorem set_out3 (c : Dev nD) (e : Fin 3) : (out3 c e).view.set = BK (cp c e) := (View.set_slice_whole _ _).trans (set_rows (off3_eq c e) _)
theorem set_out5 (c : Dev nD) : (out5 c).view.set = BK c := (View.set_slice_whole _ _).trans (set_rows (off5_eq c) _)
theorem set_out6 (c : Dev nD) : (out6 c).view.set = SB c := (View.set_slice_whole _ _).trans (set_rows (off6_eq c) _)
theorem set_rect2 (c : Dev nD) : (rect2 c).set = SB c := set_rows (off2_eq c) _
theorem set_rect4 (c : Dev nD) : (rect4 c).set = BK c := set_rows (off4_eq c) _
theorem set_rowRect (d : Fin 7) : (rowRect d).set = RS d := set_rows rfl _
theorem set_colRect (e : Fin 3) : (colRect e).set = CS e := set_rows rfl _

/-! ### The partitions -/

/-- The whole result is the device's own 128 rows and those of the members it sends to. -/
def sbPart (c : Dev nD) : Unit ⊕ Fin 7 → Finset S1024x512.Idx := Sum.elim (fun _ => SB c) fun d => SB (rp c d)
/-- The same, by the members it receives from. -/
def sbPart' (c : Dev nD) : Unit ⊕ Fin 7 → Finset S1024x512.Idx := Sum.elim (fun _ => SB c) fun d => SB (rm c d)
/-- The device's own 128 rows are its own 32 and those of its column. -/
def bkPart (c : Dev nD) : Unit ⊕ Fin 3 → Finset S1024x512.Idx := Sum.elim (fun _ => BK c) fun e => BK (cp c e)
def bkPart' (c : Dev nD) : Unit ⊕ Fin 3 → Finset S1024x512.Idx := Sum.elim (fun _ => BK c) fun e => BK (cm c e)

/-- Intervals of `n` rows whose starts differ by at least `n`. -/
theorem rows_apart {ι : Type} {N n : ℕ} (lo : ι → ℕ) (hd : ∀ b b', b ≠ b' → lo b + n ≤ lo b' ∨ lo b' + n ≤ lo b) (b b' : ι) (h : b ≠ b') :
    Disjoint (rowsOf N (lo b) n) (rowsOf N (lo b') n) := rowsOf_disjoint (hd b b' h)

/-- Where the parts start. -/
def sbStart (c : Dev nD) : Unit ⊕ Fin 7 → ℕ := Sum.elim (fun _ => sbLo c) fun d => sbLo (rp c d)
def sbStart' (c : Dev nD) : Unit ⊕ Fin 7 → ℕ := Sum.elim (fun _ => sbLo c) fun d => sbLo (rm c d)
def bkStart (c : Dev nD) : Unit ⊕ Fin 3 → ℕ := Sum.elim (fun _ => bkLo c) fun e => bkLo (cp c e)
def bkStart' (c : Dev nD) : Unit ⊕ Fin 3 → ℕ := Sum.elim (fun _ => bkLo c) fun e => bkLo (cm c e)

theorem sbPart_eq (c : Dev nD) (b) : sbPart c b = rowsOf 1024 (sbStart c b) 128 := by rcases b with _ | d <;> rfl
theorem sbPart'_eq (c : Dev nD) (b) : sbPart' c b = rowsOf 1024 (sbStart' c b) 128 := by rcases b with _ | d <;> rfl
theorem bkPart_eq (c : Dev nD) (b) : bkPart c b = rowsOf 1024 (bkStart c b) 32 := by rcases b with _ | d <;> rfl
theorem bkPart'_eq (c : Dev nD) (b) : bkPart' c b = rowsOf 1024 (bkStart' c b) 32 := by rcases b with _ | d <;> rfl

theorem sbPart_apart (c : Dev nD) (b b') (h : b ≠ b') : Disjoint (sbPart c b) (sbPart c b') := by
  rw [sbPart_eq, sbPart_eq]; exact rowsOf_disjoint (by revert c b b'; decide +kernel)
theorem sbPart'_apart (c : Dev nD) (b b') (h : b ≠ b') : Disjoint (sbPart' c b) (sbPart' c b') := by
  rw [sbPart'_eq, sbPart'_eq]; exact rowsOf_disjoint (by revert c b b'; decide +kernel)
theorem bkPart_apart (c : Dev nD) (b b') (h : b ≠ b') : Disjoint (bkPart c b) (bkPart c b') := by
  rw [bkPart_eq, bkPart_eq]; exact rowsOf_disjoint (by revert c b b'; decide +kernel)
theorem bkPart'_apart (c : Dev nD) (b b') (h : b ≠ b') : Disjoint (bkPart' c b) (bkPart' c b') := by
  rw [bkPart'_eq, bkPart'_eq]; exact rowsOf_disjoint (by revert c b b'; decide +kernel)
theorem RS_apart (b b' : Fin 7) (h : b ≠ b') : Disjoint (RS b) (RS b') := rowsOf_disjoint (by omega)
theorem CS_apart (b b' : Fin 3) (h : b ≠ b') : Disjoint (CS b) (CS b') := rowsOf_disjoint (by omega)

/-- Intervals that cover every multiple of `n` below `k * n` cover every row below it. -/
theorem rows_cover {ι : Type} [Fintype ι] [DecidableEq ι] {N n k : ℕ} (lo : ι → ℕ) (base : ℕ) (hc : ∀ q < k, ∃ b, lo b = base + n * q) (i : (mat N).Idx)
    (hi : base ≤ (i 0).val ∧ (i 0).val < base + n * k) : i ∈ Finset.univ.biUnion fun b => rowsOf N (lo b) n := by
  have hn : 0 < n := by rcases Nat.eq_zero_or_pos n with rfl | h; · omega
                        exact h
  obtain ⟨b, hb⟩ := hc (((i 0).val - base) / n) (by rw [Nat.div_lt_iff_lt_mul hn, Nat.mul_comm]; omega)
  rw [Finset.mem_biUnion]
  refine ⟨b, Finset.mem_univ _, mem_rowsOf.mpr ?_⟩
  have h1 := Nat.div_add_mod ((i 0).val - base) n
  have h2 := Nat.mod_lt ((i 0).val - base) hn
  omega

theorem sbPart_cover (c : Dev nD) : Finset.univ.biUnion (sbPart c) = Finset.univ := by
  ext i; refine iff_of_true ?_ (Finset.mem_univ _)
  rw [show sbPart c = fun b => rowsOf 1024 (sbStart c b) 128 from funext (sbPart_eq c)]
  exact rows_cover (k := 8) _ 0 (by revert c; decide +kernel) i ⟨Nat.zero_le _, (i 0).isLt⟩
theorem sbPart'_cover (c : Dev nD) : Finset.univ.biUnion (sbPart' c) = Finset.univ := by
  ext i; refine iff_of_true ?_ (Finset.mem_univ _)
  rw [show sbPart' c = fun b => rowsOf 1024 (sbStart' c b) 128 from funext (sbPart'_eq c)]
  exact rows_cover (k := 8) _ 0 (by revert c; decide +kernel) i ⟨Nat.zero_le _, (i 0).isLt⟩
theorem RS_cover : Finset.univ.biUnion RS = Finset.univ := by
  ext i; refine iff_of_true ?_ (Finset.mem_univ _)
  exact rows_cover (k := 7) (fun b : Fin 7 => 128 * b.val) 0 (by decide) i ⟨Nat.zero_le _, (i 0).isLt⟩
theorem CS_cover : Finset.univ.biUnion CS = Finset.univ := by
  ext i; refine iff_of_true ?_ (Finset.mem_univ _)
  exact rows_cover (k := 3) (fun b : Fin 3 => 32 * b.val) 0 (by decide) i ⟨Nat.zero_le _, (i 0).isLt⟩

theorem bk_in_sb (c : Dev nD) (b) : sbLo c ≤ bkStart c b ∧ bkStart c b + 32 ≤ sbLo c + 128 := by revert c b; decide +kernel
theorem bk_in_sb' (c : Dev nD) (b) : sbLo c ≤ bkStart' c b ∧ bkStart' c b + 32 ≤ sbLo c + 128 := by revert c b; decide +kernel

theorem bkPart_cover (c : Dev nD) : Finset.univ.biUnion (bkPart c) = SB c := by
  ext i
  rw [show bkPart c = fun b => rowsOf 1024 (bkStart c b) 32 from funext (bkPart_eq c)]
  constructor
  · intro h; obtain ⟨b, -, hb⟩ := Finset.mem_biUnion.mp h
    have := bk_in_sb c b; rw [mem_rowsOf] at hb; exact mem_rowsOf.mpr (by omega)
  · intro h
    exact rows_cover (k := 4) _ (sbLo c) (by clear h; revert c; decide +kernel) i (mem_rowsOf.mp h)
theorem bkPart'_cover (c : Dev nD) : Finset.univ.biUnion (bkPart' c) = SB c := by
  ext i
  rw [show bkPart' c = fun b => rowsOf 1024 (bkStart' c b) 32 from funext (bkPart'_eq c)]
  constructor
  · intro h; obtain ⟨b, -, hb⟩ := Finset.mem_biUnion.mp h
    have := bk_in_sb' c b; rw [mem_rowsOf] at hb; exact mem_rowsOf.mpr (by omega)
  · intro h
    exact rows_cover (k := 4) _ (sbLo c) (by clear h; revert c; decide +kernel) i (mem_rowsOf.mp h)

/-! ## Contents -/

/-- Contents of the result buffer. -/
abbrev OutC (F : FTy → Type) : Type := FVec F S1024x512 .bf16

/-- The element at row `r`, column `x`. -/
def ix (r : ℕ) (x : Fin 512) : S1024x512.Idx := fun a => match a with
  | ⟨0, _⟩ => (⟨r % 1024, Nat.mod_lt _ (by decide)⟩ : Fin 1024)
  | ⟨1, _⟩ => x

theorem ix_self (i : S1024x512.Idx) : ix (i 0).val (i 1) = i := by
  funext a
  match a with
  | ⟨0, _⟩ => exact Fin.ext (Nat.mod_eq_of_lt (i 0).isLt)
  | ⟨1, _⟩ => rfl
theorem ix_eq (i : S1024x512.Idx) {r : ℕ} {x : Fin 512} (hr : (i 0).val = r) (hx : i 1 = x) : i = ix r x := by
  subst hr; subst hx; exact (ix_self i).symm

variable (P : Dev nD → OutC F)

/-- The partial results of the device's group, its own first and then those sent to it, in the order of the sends. -/
def sumRow (c : Dev nD) : OutC F :=
  addf (addf (addf (addf (addf (addf (addf (P c) (P (rm c 0))) (P (rm c 1))) (P (rm c 2))) (P (rm c 3))) (P (rm c 4))) (P (rm c 5))) (P (rm c 6))
/-- The group sums of the device's column likewise. -/
def sumCol (c : Dev nD) : OutC F :=
  addf (addf (addf (sumRow P c) (sumRow P (cm c 0))) (sumRow P (cm c 1))) (sumRow P (cm c 2))

/-- The device that sums row `r` over all devices. -/
def owner (r : ℕ) : Dev nD := ⟨8 * (r % 128 / 32) + r / 128 % 8, by simp only [nD]; omega⟩
/-- The result, the same on every device: each row as its owner summed it. -/
def fin : OutC F := fun i => sumCol P (owner (i 0).val) i

/-- The row landing buffer of `t` when every copy has landed: slot `d` holds the group member's partial rows. -/
def rowFull (t : Dev nD) : FVec F S896x512 .bf16 := fun i =>
  P (rm t ⟨(i 0).val / 128 % 7, Nat.mod_lt _ (by decide)⟩) (ix (sbLo t + (i 0).val % 128) (i 1))
/-- The column landing buffer of `t`: slot `e` holds the group sums of the device of the column. -/
def colFull (t : Dev nD) : FVec F S96x512 .bf16 := fun i =>
  sumRow P (cm t ⟨(i 0).val / 32 % 3, Nat.mod_lt _ (by decide)⟩) (ix (bkLo t + (i 0).val % 32) (i 1))

theorem owner_row (c : Dev nD) (r : ℕ) (h : bkLo c ≤ r ∧ r < bkLo c + 32) : owner r = c := by
  have := c.isLt; simp only [nD] at this
  unfold bkLo at h; unfold owner; apply Fin.ext; show 8 * (r % 128 / 32) + r / 128 % 8 = c.val
  have hm := Nat.div_add_mod c.val 8
  have h8 := Nat.mod_lt c.val (show 0 < 8 by decide)
  have hq : c.val / 8 < 4 := by omega
  generalize c.val % 8 = j at *
  generalize c.val / 8 = g at *
  have h1 : r / 128 = j := by omega
  have h2 : r % 128 / 32 = g := by omega
  rw [h1, h2, Nat.mod_eq_of_lt h8]; exact hm

/-- On the owner's rows the result is the owner's sum. -/
theorem fin_on (c : Dev nD) : ∀ i ∈ BK c, fin P i = sumCol P c i := fun i hi => by
  unfold fin; rw [owner_row c _ (mem_rowsOf.mp hi)]

/-! ### Reads -/

theorem emb_row {N n lo : ℕ} {off : Fin 2 → ℕ} (h : off = ![lo, 0]) (inb : ∀ a, off a + (![n, 512] : Fin 2 → ℕ) a ≤ (mat N).size a)
    (x : (mat n).Idx) : ((Rect.unit (s := mat N) off ![n, 512] inb).emb x 0).val = lo + (x 0).val ∧ (Rect.unit (s := mat N) off ![n, 512] inb).emb x 1 = x 1 := by
  subst h
  constructor
  · show lo + 1 * (x 0).val = _; rw [Nat.one_mul]
  · apply Fin.ext; show 0 + 1 * (x 1).val = _; omega

/-- A read of the result's slice at rows `lo …`. -/
theorem at_slice {n lo : ℕ} {off : Fin 2 → ℕ} (h : off = ![lo, 0]) (inb : ∀ a, off a + (![n, 512] : Fin 2 → ℕ) a ≤ S1024x512.size a)
    (f : OutC F) (x : (mat n).Idx) : f ((Rect.unit (s := S1024x512) off ![n, 512] inb).emb x) = f (ix (lo + (x 0).val) (x 1)) :=
  congrArg f (ix_eq _ (emb_row h inb x).1 (emb_row h inb x).2)

theorem rowFull_at (t : Dev nD) (d : Fin 7) (x : S128x512.Idx) :
    rowFull P t ((rowRect d).emb x) = P (rm t d) (ix (sbLo t + (x 0).val) (x 1)) := by
  have h := emb_row (N := 896) (n := 128) (off := ![128 * d.val, 0]) rfl (rowSlot_inb d) x
  have hx : (x 0).val < 128 := (x 0).isLt
  have h7 := d.isLt
  unfold rowFull
  congr 1
  · apply congrArg; apply Fin.ext; show ((rowRect d).emb x 0).val / 128 % 7 = d.val; rw [h.1]; omega
  · rw [h.1, h.2]; congr 1; omega

theorem colFull_at (t : Dev nD) (e : Fin 3) (x : S32x512.Idx) :
    colFull P t ((colRect e).emb x) = sumRow P (cm t e) (ix (bkLo t + (x 0).val) (x 1)) := by
  have h := emb_row (N := 96) (n := 32) (off := ![32 * e.val, 0]) rfl (colSlot_inb e) x
  have hx : (x 0).val < 32 := (x 0).isLt
  have h3 := e.isLt
  unfold colFull
  congr 1
  · apply congrArg; apply Fin.ext; show ((colRect e).emb x 0).val / 32 % 3 = e.val; rw [h.1]; omega
  · rw [h.1, h.2]; congr 1; omega

/-! ### What the copies leave -/

/-- A landing whose every element is the wanted one leaves the wanted contents on the destination. -/
theorem landing {Val : EltTy → Type} {κ κ' : Idealize.ShloMosaic.Kind} {sp sp' : Space} {s : Shape} {e : EltTy} (v : View sig κ sp s e) (w : View sig κ' sp' s e)
    (fd : v.ty.Contents Val) (fs : w.ty.Contents Val) (G : v.ty.Contents Val)
    (h : ∀ x, _root_.cast (congrArg Val v.elt_eq.symm) (w.read Val fs x) = G (v.emb x)) :
    ∀ i ∈ v.set, v.write Val fd (w.read Val fs) Finset.univ i = G i := by
  intro i hi
  obtain ⟨x, -, rfl⟩ := Finset.mem_map.mp hi
  rw [View.write_emb_of_mem _ _ (Finset.mem_univ x)]
  exact h x

/-- A store likewise. -/
theorem storing {Val : EltTy → Type} {κ : Idealize.ShloMosaic.Kind} {sp : Space} {s : Shape} {e : EltTy} (v : View sig κ sp s e)
    (fd : v.ty.Contents Val) (p : s.Idx → Val e) (G : v.ty.Contents Val)
    (h : ∀ x, _root_.cast (congrArg Val v.elt_eq.symm) (p x) = G (v.emb x)) :
    ∀ i ∈ v.set, v.write Val fd p Finset.univ i = G i := by
  intro i hi
  obtain ⟨x, -, rfl⟩ := Finset.mem_map.mp hi
  rw [View.write_emb_of_mem _ _ (Finset.mem_univ x)]
  exact h x

theorem land_row (c : Dev nD) (d : Fin 7) (fd : FVec F S896x512 .bf16) :
    ∀ i ∈ RS d, (rowSlot d).view.write (Elt F) fd ((out1 c d).view.read (Elt F) (P c)) Finset.univ i = rowFull P (rp c d) i := by
  rw [← set_rowSlot]
  refine landing (Val := Elt F) (rowSlot d).view (out1 c d).view fd (P c) (rowFull P (rp c d)) fun x => ?_
  show P c ((rect1 c d).emb x) = rowFull P (rp c d) ((rowRect d).emb x)
  exact (at_slice (n := 128) (off1_eq c d) _ (P c) x).trans (by rw [rowFull_at, rm_rp])

theorem land_col (c : Dev nD) (e : Fin 3) (fd : FVec F S96x512 .bf16) :
    ∀ i ∈ CS e, (colSlot e).view.write (Elt F) fd ((out3 c e).view.read (Elt F) (sumRow P c)) Finset.univ i = colFull P (cp c e) i := by
  rw [← set_colSlot]
  refine landing (Val := Elt F) (colSlot e).view (out3 c e).view fd (sumRow P c) (colFull P (cp c e)) fun x => ?_
  show sumRow P c ((rect3 c e).emb x) = colFull P (cp c e) ((colRect e).emb x)
  exact (at_slice (n := 32) (off3_eq c e) _ (sumRow P c) x).trans (by rw [colFull_at, cm_cp])

theorem land_gcol (c : Dev nD) (fd : OutC F) :
    ∀ i ∈ BK c, (out5 c).view.write (Elt F) fd ((out5 c).view.read (Elt F) (fin P)) Finset.univ i = fin P i := by
  rw [← set_out5]
  exact landing (Val := Elt F) (out5 c).view (out5 c).view fd (fin P) (fin P) fun x => rfl

theorem land_grow (c : Dev nD) (fd : OutC F) :
    ∀ i ∈ SB c, (out6 c).view.write (Elt F) fd ((out6 c).view.read (Elt F) (fin P)) Finset.univ i = fin P i := by
  rw [← set_out6]
  exact landing (Val := Elt F) (out6 c).view (out6 c).view fd (fin P) (fin P) fun x => rfl

/-- The store of the group sum. -/
theorem store_row (c : Dev nD) (fd : OutC F) :
    ∀ i ∈ SB c, (outM.access (rect2 c)).write (Elt F) fd
      (k0_pay5 (outM.view.readAt (Elt F) (rect2 c).toLoadRect (P c)) (rowM.view.readAt (Elt F) (rowRect 0).toLoadRect (rowFull P c))
        (rowM.view.readAt (Elt F) (rowRect 1).toLoadRect (rowFull P c)) (rowM.view.readAt (Elt F) (rowRect 2).toLoadRect (rowFull P c))
        (rowM.view.readAt (Elt F) (rowRect 3).toLoadRect (rowFull P c)) (rowM.view.readAt (Elt F) (rowRect 4).toLoadRect (rowFull P c))
        (rowM.view.readAt (Elt F) (rowRect 5).toLoadRect (rowFull P c)) (rowM.view.readAt (Elt F) (rowRect 6).toLoadRect (rowFull P c))) Finset.univ i
      = sumRow P c i := by
  have hs : (outM.access (rect2 c)).set = SB c := (View.set_slice_whole _ _).trans (set_rect2 c)
  rw [← hs]
  refine storing (Val := Elt F) (outM.access (rect2 c)) fd _ (sumRow P c) fun x => ?_
  have hr : ∀ d : Fin 7, rowM.view.readAt (Elt F) (rowRect d).toLoadRect (rowFull P c) x = P (rm c d) ((rect2 c).emb x) := fun d => by
    show rowFull P c ((rowRect d).emb x) = _
    exact (rowFull_at P c d x).trans (at_slice (n := 128) (off2_eq c) _ (P (rm c d)) x).symm
  show k0_pay5 _ _ _ _ _ _ _ _ x = sumRow P c ((rect2 c).emb x)
  unfold k0_pay5 sumRow
  simp only [shapeCast_self]
  unfold addf
  simp only [hr]
  rfl

/-- The store of the column sum. -/
theorem store_col (c : Dev nD) (fd : OutC F) :
    ∀ i ∈ BK c, (outM.access (rect4 c)).write (Elt F) fd
      (k0_pay6 (outM.view.readAt (Elt F) (rect4 c).toLoadRect (sumRow P c)) (colM.view.readAt (Elt F) (colRect 0).toLoadRect (colFull P c))
        (colM.view.readAt (Elt F) (colRect 1).toLoadRect (colFull P c)) (colM.view.readAt (Elt F) (colRect 2).toLoadRect (colFull P c))) Finset.univ i
      = fin P i := by
  have hs : (outM.access (rect4 c)).set = BK c := (View.set_slice_whole _ _).trans (set_rect4 c)
  intro i hi
  rw [fin_on P c i hi]
  revert i
  rw [← hs]
  refine storing (Val := Elt F) (outM.access (rect4 c)) fd _ (sumCol P c) fun x => ?_
  have hr : ∀ e : Fin 3, colM.view.readAt (Elt F) (colRect e).toLoadRect (colFull P c) x = sumRow P (cm c e) ((rect4 c).emb x) := fun e => by
    show colFull P c ((colRect e).emb x) = _
    exact (colFull_at P c e x).trans (at_slice (n := 32) (off4_eq c) _ (sumRow P (cm c e)) x).symm
  show k0_pay6 _ _ _ _ x = sumCol P c ((rect4 c).emb x)
  unfold k0_pay6 sumCol
  simp only [shapeCast_self]
  unfold addf
  simp only [hr]
  rfl

end Cert.Lookup

end
-- ==== Proof.Protocol.lean ====
/-
The protocol of the kernel's semaphores, as one schedule.

Every cell is waited on once, by its owner, for its whole round:

* the barrier cell of `t`: one unit from each of the ten devices that `t` will copy to, which hands `t` the landing slot
  there that `t`'s copy goes to;
* `rsR d` (row exchange, arrival): the copy from the group member `rm t d`, which hands `t` its slot `d` filled and the
  rows of the sender's result that were copied — `t` will write the finished rows there; `rsS d` (departure): nothing;
* `csR e`, `csS e`: the same along the column, with 32 rows;
* `gcR e` (column gather, arrival): the 32 finished rows of `cm t e`, in place; `gcS e` (departure): the share of
  the sender's finished rows that the copy read from;
* `grR d`, `grS d`: the same along the row, with 128 rows;
* element 0 of each of the eight semaphore arrays is never used.
-/
module

public import proofs.«01_k».proof.Proof.Rows
public import proofs.«01_k».proof.Proof.Gen.KernelIdeal.Launch
public import Idealize.ShloMosaic.Lib.Pipeline.Launch
public import Idealize.ShloMosaic.Lib.Pipeline.Kit
public import Idealize.ShloMosaic.Lib.SparseCore.Stream
public import Idealize.ShloMosaic.Lib.Ring
public import Idealize.ShloMosaic.Lib.Tactic

@[expose] public section

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The names of a cell's duties: a barrier cell has one for each of its ten payers; every other cell has `one` only. -/
abbrev D : Type := Fin 7 ⊕ Fin 3
abbrev one : D := .inl 0

abbrev UB : Type := URounds (GSem nD τ sig) D
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The kernel's own cells of a device: the eight unused ones; the row exchange's departures and arrivals; the column
    exchange's; the column gather's; the row gather's. -/
abbrev Own : Type := Fin 8 ⊕ Fin 7 ⊕ Fin 7 ⊕ Fin 3 ⊕ Fin 3 ⊕ Fin 3 ⊕ Fin 3 ⊕ Fin 7 ⊕ Fin 7
/-- Those and the runtime's barrier cell. -/
abbrev Cell : Type := Unit ⊕ Own

@[match_pattern] abbrev bar : Cell := .inl ()
@[match_pattern] abbrev idle (i : Fin 8) : Cell := .inr (.inl i)
@[match_pattern] abbrev rsS (d : Fin 7) : Cell := .inr (.inr (.inl d))
@[match_pattern] abbrev rsR (d : Fin 7) : Cell := .inr (.inr (.inr (.inl d)))
@[match_pattern] abbrev csS (e : Fin 3) : Cell := .inr (.inr (.inr (.inr (.inl e))))
@[match_pattern] abbrev csR (e : Fin 3) : Cell := .inr (.inr (.inr (.inr (.inr (.inl e)))))
@[match_pattern] abbrev gcS (e : Fin 3) : Cell := .inr (.inr (.inr (.inr (.inr (.inr (.inl e))))))
@[match_pattern] abbrev gcR (e : Fin 3) : Cell := .inr (.inr (.inr (.inr (.inr (.inr (.inr (.inl e)))))))
@[match_pattern] abbrev grS (d : Fin 7) : Cell := .inr (.inr (.inr (.inr (.inr (.inr (.inr (.inr (.inl d))))))))
@[match_pattern] abbrev grR (d : Fin 7) : Cell := .inr (.inr (.inr (.inr (.inr (.inr (.inr (.inr (.inr d))))))))

/-- The semaphore of an own cell. -/
def osem : Own → SemLoc sig
  | .inl i => .dma (match i with
      | 0 => sem8 cc0_scratch2 0 | 1 => sem8 cc0_scratch3 0 | 2 => sem4 cc0_scratch4 0 | 3 => sem4 cc0_scratch5 0
      | 4 => sem4 cc0_scratch6 0 | 5 => sem4 cc0_scratch7 0 | 6 => sem8 cc0_scratch8 0 | 7 => sem8 cc0_scratch9 0)
  | .inr (.inl d) => .dma (sem8 cc0_scratch2 d.succ)
  | .inr (.inr (.inl d)) => .dma (sem8 cc0_scratch3 d.succ)
  | .inr (.inr (.inr (.inl e))) => .dma (sem4 cc0_scratch4 e.succ)
  | .inr (.inr (.inr (.inr (.inl e)))) => .dma (sem4 cc0_scratch5 e.succ)
  | .inr (.inr (.inr (.inr (.inr (.inl e))))) => .dma (sem4 cc0_scratch6 e.succ)
  | .inr (.inr (.inr (.inr (.inr (.inr (.inl e)))))) => .dma (sem4 cc0_scratch7 e.succ)
  | .inr (.inr (.inr (.inr (.inr (.inr (.inr (.inl d))))))) => .dma (sem8 cc0_scratch8 d.succ)
  | .inr (.inr (.inr (.inr (.inr (.inr (.inr (.inr d))))))) => .dma (sem8 cc0_scratch9 d.succ)
/-- The semaphore of a cell. -/
def csem : Cell → SemLoc sig
  | .inl _ => .reg barS
  | .inr k => osem k

set_option maxRecDepth 8000 in
theorem osem_inj : Function.Injective osem := by decide +kernel
theorem osem_ne_bar (k : Own) : osem k ≠ .reg barS := by revert k; decide +kernel
theorem csem_inj : Function.Injective csem := by
  intro k k' h
  rcases k with ⟨⟩ | k <;> rcases k' with ⟨⟩ | k'
  · rfl
  · exact absurd h.symm (osem_ne_bar k')
  · exact absurd h (osem_ne_bar k)
  · exact congrArg _ (osem_inj h)

/-- The cell of a semaphore, if it is one of the kernel's. -/
def cellAt (s : SemLoc sig) : Option Cell := Function.partialInv csem s
theorem cellAt_csem (k : Cell) : cellAt (csem k) = some k := Function.partialInv_left csem_inj k
theorem cellAt_some {s : SemLoc sig} {k : Cell} (h : cellAt s = some k) : csem k = s := (Function.partialInv_of_injective csem_inj k s).mp h

/-- Cell `k` of device `c`. -/
abbrev kc (c : Dev nD) (k : Cell) : GSem nD τ sig := ((c : Thread nD τ), csem k)

theorem kc_inj : Function.Injective (fun ck : Dev nD × Cell => kc ck.1 ck.2) := by
  rintro ⟨c, k⟩ ⟨c', k'⟩ h
  have h1 : c = c' := congrArg (fun g : GSem nD τ sig => g.1.1) h
  have h2 : csem k = csem k' := congrArg (fun g : GSem nD τ sig => g.2) h
  rw [h1, csem_inj h2]

/-! ## Amounts -/

/-- What a copy of 128 rows, of 32 rows, adds to its semaphores. -/
abbrev N1 : ℕ := (rowSlot 0).view.dmaCredit
abbrev N2 : ℕ := (colSlot 0).view.dmaCredit
theorem N1_pos : 0 < N1 := View.dmaCredit_pos _ (by decide)
theorem N2_pos : 0 < N2 := View.dmaCredit_pos _ (by decide)

/-- The duties of a cell in its one round. -/
def dut : Cell → Finset D
  | bar => Finset.univ
  | idle _ => ∅
  | _ => {one}
/-- What each adds. -/
def amt : Cell → ℕ
  | bar => 1
  | idle _ => 1
  | rsS _ => N1 | rsR _ => N1
  | csS _ => N2 | csR _ => N2
  | gcS _ => N2 | gcR _ => N2
  | grS _ => N1 | grR _ => N1
theorem amt_pos (k : Cell) : 0 < amt k := by
  rcases k with _ | _ | _ | _ | _ | _ | _ | _ | _ | _
  · exact Nat.one_pos
  · exact Nat.one_pos
  · exact N1_pos
  · exact N1_pos
  · exact N2_pos
  · exact N2_pos
  · exact N2_pos
  · exact N2_pos
  · exact N1_pos
  · exact N1_pos

/-! ## Payloads -/

/-- Rows of device `c`'s result, of its landing buffers. -/
def outPt (c : Dev nD) (S : Finset S1024x512.Idx) (q : PosShare TreeShare) (f : OutC F) : sProp 𝕄 :=
  ((c : Thread nD τ).loc cc0_stg2_0) ↦[S]{q} f
def rowPt (c : Dev nD) (S : Finset S896x512.Idx) (f : FVec F S896x512 .bf16) : sProp 𝕄 :=
  ((c : Thread nD τ).loc cc0_scratch0) ↦[S]{fullShare} f
def colPt (c : Dev nD) (S : Finset S96x512.Idx) (f : FVec F S96x512 .bf16) : sProp 𝕄 :=
  ((c : Thread nD τ).loc cc0_scratch1) ↦[S]{fullShare} f
/-- The same at some contents. -/
def outAny (c : Dev nD) (S : Finset S1024x512.Idx) : sProp 𝕄 := iprop(∃ f, outPt (F := F) c S fullShare f)
def rowAny (c : Dev nD) (d : Fin 7) : sProp 𝕄 := iprop(∃ f, rowPt (F := F) c (RS d) f)
def colAny (c : Dev nD) (e : Fin 3) : sProp 𝕄 := iprop(∃ f, colPt (F := F) c (CS e) f)

/-- The share of its finished rows that a device lends to gather copy `d` along the row, `e` along the column. -/
abbrev q7 (d : Fin 7) : PosShare TreeShare := pieceOf fullShare 7 (by decide) d
abbrev q3 (e : Fin 3) : PosShare TreeShare := pieceOf fullShare 3 (by decide) e

instance outPt_storable (c : Dev nD) (S) (q) (f : OutC F) : BI.Storable (upEmb : UEmb _ 𝕄) (outPt c S q f) := by unfold outPt; infer_instance
instance rowPt_storable (c : Dev nD) (S) (f : FVec F S896x512 .bf16) : BI.Storable (upEmb : UEmb _ 𝕄) (rowPt c S f) := by unfold rowPt; infer_instance
instance colPt_storable (c : Dev nD) (S) (f : FVec F S96x512 .bf16) : BI.Storable (upEmb : UEmb _ 𝕄) (colPt c S f) := by unfold colPt; infer_instance
instance outAny_storable (c : Dev nD) (S) : BI.Storable (upEmb : UEmb _ 𝕄) (outAny (F := F) c S) := by unfold outAny; infer_instance
instance rowAny_storable (c : Dev nD) (d) : BI.Storable (upEmb : UEmb _ 𝕄) (rowAny (F := F) c d) := by unfold rowAny; infer_instance
instance colAny_storable (c : Dev nD) (e) : BI.Storable (upEmb : UEmb _ 𝕄) (colAny (F := F) c e) := by unfold colAny; infer_instance

variable (P : Dev nD → OutC F)

/-- What duty `δ` of cell `k` of device `t` hands to `t`. -/
def pay (t : Dev nD) : Cell → D → sProp 𝕄
  | bar, .inl d => rowAny (rm t d) d.rev
  | bar, .inr e => colAny (cm t e) e.rev
  | idle _, _ => iprop(emp)
  | rsS _, _ => iprop(emp)
  | rsR d, _ => iprop(rowPt t (RS d) (rowFull P t) ∗ outAny (rm t d) (SB t))
  | csS _, _ => iprop(emp)
  | csR e, _ => iprop(colPt t (CS e) (colFull P t) ∗ outAny (cm t e) (BK t))
  | gcS e, _ => outPt t (BK t) (q3 e) (fin P)
  | gcR e, _ => outPt t (BK (cm t e)) fullShare (fin P)
  | grS d, _ => outPt t (SB t) (q7 d) (fin P)
  | grR d, _ => outPt t (SB (rm t d)) fullShare (fin P)

instance pay_storable (t : Dev nD) (k : Cell) (δ : D) : BI.Storable (upEmb : UEmb _ 𝕄) (pay P t k δ) := by
  rcases k with _ | _ | _ | _ | _ | _ | _ | _ | _ | _
  · rcases δ with d | e
    · show BI.Storable _ (rowAny _ _); infer_instance
    · show BI.Storable _ (colAny _ _); infer_instance
  · show BI.Storable _ iprop(emp); infer_instance
  · show BI.Storable _ iprop(emp); infer_instance
  · show BI.Storable _ iprop(_ ∗ _); infer_instance
  · show BI.Storable _ iprop(emp); infer_instance
  · show BI.Storable _ iprop(_ ∗ _); infer_instance
  · show BI.Storable _ (outPt _ _ _ _); infer_instance
  · show BI.Storable _ (outPt _ _ _ _); infer_instance
  · show BI.Storable _ (outPt _ _ _ _); infer_instance
  · show BI.Storable _ (outPt _ _ _ _); infer_instance

/-! ## The schedule -/

/-- One round, round 0, at the cells of the devices' TensorCores. -/
def Rd : Rounds.Schedule (GSem nD τ sig) D 𝕄 where
  duties g r := if r = 0 ∧ g.1.2 = .tc then (cellAt g.2).elim ∅ dut else ∅
  unitless _ := False
  amount g _ _ := (cellAt g.2).elim 1 amt
  payload g _ δ := (cellAt g.2).elim iprop(emp) fun k => pay P g.1.1 k δ
  amount_pos g _ _ _ := by
    cases h : cellAt g.2 with
    | none => exact Nat.one_pos
    | some k => exact amt_pos k

instance Rd_storable (g : GSem nD τ sig) (r : ℕ) (δ : D) : BI.Storable (upEmb : UEmb _ 𝕄) ((Rd P).payload g r δ) := by
  show BI.Storable _ ((cellAt g.2).elim iprop(emp) fun k => pay P g.1.1 k δ)
  cases cellAt g.2 with
  | none => show BI.Storable _ iprop(emp); infer_instance
  | some k => show BI.Storable _ (pay P g.1.1 k δ); infer_instance

theorem Rd_duties (c : Dev nD) (k : Cell) : (Rd P).duties (kc c k) 0 = dut k := by
  show (if 0 = 0 ∧ (kc c k).1.2 = .tc then (cellAt (csem k)).elim ∅ dut else ∅) = dut k
  rw [if_pos ⟨rfl, rfl⟩]
  rw [cellAt_csem]; rfl
theorem Rd_amount (c : Dev nD) (k : Cell) (δ : D) : (Rd P).amount (kc c k) 0 δ = amt k := by
  show (cellAt (csem k)).elim 1 amt = amt k
  rw [cellAt_csem]; rfl
theorem Rd_payload (c : Dev nD) (k : Cell) (δ : D) : (Rd P).payload (kc c k) 0 δ = pay P c k δ := by
  show ((cellAt (csem k)).elim iprop(emp) fun k => pay P c k δ) = pay P c k δ
  rw [cellAt_csem]; rfl
theorem Rd_later (g : GSem nD τ sig) : ∀ r, 1 ≤ r → (Rd P).duties g r = ∅ := fun r hr => if_neg fun h => by omega
theorem Rd_idle (c : Dev nD) (i : Fin 8) : ∀ r, 0 ≤ r → (Rd P).duties (kc c (idle i)) r = ∅ := fun r _ => by
  rcases Nat.eq_zero_or_pos r with rfl | h
  · rw [Rd_duties]; rfl
  · exact Rd_later P _ r h

theorem Rd_expect (c : Dev nD) (k : Cell) (hk : dut k = {one}) : (Rd P).expect (kc c k) 0 = amt k := by
  unfold Schedule.expect Schedule.amountOf
  rw [Rd_duties, hk, Finset.sum_singleton, Rd_amount]
theorem Rd_expect_bar (c : Dev nD) : (Rd P).expect (kc c bar) 0 = 10 := by
  unfold Schedule.expect Schedule.amountOf
  rw [Rd_duties, Finset.sum_congr rfl fun δ _ => Rd_amount P c bar δ]
  rfl

/-- What the wait on a cell with one duty hands over. -/
theorem Rd_rest (c : Dev nD) (k : Cell) (hk : dut k = {one}) :
    bigSep ((Rd P).duties (kc c k) 0 \ ∅) (fun δ => (Rd P).payload (kc c k) 0 δ) = pay P c k one := by
  rw [Finset.sdiff_empty, Rd_duties, hk, bigSep_singleton, Rd_payload]
/-- What the barrier wait hands over. -/
theorem Rd_rest_bar (c : Dev nD) :
    bigSep ((Rd P).duties (kc c bar) 0 \ ∅) (fun δ => (Rd P).payload (kc c bar) 0 δ)
      = iprop(bigSep Finset.univ (fun d => rowAny (rm c d) d.rev) ∗ bigSep Finset.univ (fun e => colAny (cm c e) e.rev)) := by
  rw [Finset.sdiff_empty, Rd_duties, show dut bar = Finset.univ from rfl, bigSep_congr fun δ _ => Rd_payload P c bar δ, bigSep_univ_sum]
  rfl

/-! ## What each device owes at launch, and the levels -/

/-- The credit of cell `k i` of device `t i`, for `i` over a list. -/
def owl {ι : Type} (l : List ι) (t : ι → Dev nD) (k : ι → Cell) (n : ℕ) : CellTallies nD τ sig Unit := (l.map fun i => tallyAt (kc (t i) (k i)) () n).sum

theorem owl_cons {ι : Type} (i : ι) (l : List ι) (t : ι → Dev nD) (k : ι → Cell) (n : ℕ) (O : CellTallies nD τ sig Unit) :
    O + owl (i :: l) t k n = (O + owl l t k n) + tallyAt (kc (t i) (k i)) () n := by
  unfold owl; rw [List.map_cons, List.sum_cons, add_assoc, add_comm (tallyAt _ _ _)]
theorem owl_nil {ι : Type} (t : ι → Dev nD) (k : ι → Cell) (n : ℕ) (O : CellTallies nD τ sig Unit) : O + owl [] t k n = O := add_zero O

/-- What is still owed after the column gather's copies, the column exchange's, the row exchange's, the barrier's column
    signals, its row signals, and at launch. -/
def O5 (c : Dev nD) : CellTallies nD τ sig Unit := 0 + owl seven (rp c) grR N1
def O4 (c : Dev nD) : CellTallies nD τ sig Unit := O5 c + owl three (cp c) gcR N2
def O3 (c : Dev nD) : CellTallies nD τ sig Unit := O4 c + owl three (cp c) csR N2
def O2 (c : Dev nD) : CellTallies nD τ sig Unit := O3 c + owl seven (rp c) rsR N1
def O1 (c : Dev nD) : CellTallies nD τ sig Unit := O2 c + owl three (cp c) (fun _ => bar) 1
def O₀ (c : Dev nD) : CellTallies nD τ sig Unit := O1 c + owl seven (rp c) (fun _ => bar) 1

def L (g : GSem nD τ sig) : Finset Unit := if g.1.2 = .tc then {()} else ∅
/-- The order in which the cells are waited on. -/
def level : Cell → ℕ
  | bar => 1 | rsR _ => 2 | csR _ => 3 | gcR _ => 4 | grR _ => 5
  | _ => 0
def lv (g : GSem nD τ sig) (_ : Unit) : ℕ := (cellAt g.2).elim 0 level

theorem L_of_ne (g : GSem nD τ sig) (h : g.1.2 ≠ .tc) : L g = ∅ := if_neg h
theorem L_tc (c : Dev nD) (s : SemLoc sig) : L ((c : Thread nD τ), s) = {()} := if_pos rfl
theorem lv_kc (c : Dev nD) (k : Cell) : lv (kc c k) () = level k := by
  show (cellAt (csem k)).elim 0 level = level k
  rw [cellAt_csem]; rfl

/-- Everything owed is on cells above level `n`. -/
def Above (n : ℕ) (O : CellTallies nD τ sig Unit) : Prop := ∀ g u, 0 < O g u → u ∈ L g ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · rw [h0, Nat.zero_add] at hg; exact h' g u hg
  · exact h g u h0
theorem above_owl {ι : Type} {n : ℕ} (l : List ι) (t : ι → Dev nD) (k : ι → Cell) (a : ℕ) (h : ∀ i, n < level (k i)) : Above n (owl l t k a) := by
  induction l with
  | nil => exact above_zero n
  | cons i l ih =>
    unfold owl at ih ⊢
    rw [List.map_cons, List.sum_cons]
    refine above_add (fun g u hg => ?_) ih
    rw [tallyAt_apply] at hg
    by_cases hc : g = kc (t i) (k i) ∧ u = ()
    · rw [hc.1, L_tc, hc.2, lv_kc]; exact ⟨Finset.mem_singleton_self _, h i⟩
    · rw [if_neg hc] at hg; exact absurd hg (Nat.lt_irrefl 0)

theorem above_O5 (c : Dev nD) {n : ℕ} (h : n < 5) : Above n (O5 c) := above_add (above_zero n) (above_owl _ _ _ _ fun _ => h)
theorem above_O4 (c : Dev nD) {n : ℕ} (h : n < 4) : Above n (O4 c) := above_add (above_O5 c (by omega)) (above_owl _ _ _ _ fun _ => h)
theorem above_O3 (c : Dev nD) {n : ℕ} (h : n < 3) : Above n (O3 c) := above_add (above_O4 c (by omega)) (above_owl _ _ _ _ fun _ => h)
theorem above_O2 (c : Dev nD) {n : ℕ} (h : n < 2) : Above n (O2 c) := above_add (above_O3 c (by omega)) (above_owl _ _ _ _ fun _ => h)
theorem above_O1 (c : Dev nD) {n : ℕ} (h : n < 1) : Above n (O1 c) := above_add (above_O2 c (by omega)) (above_owl _ _ _ _ fun _ => h)
theorem above_O₀ (c : Dev nD) {n : ℕ} (h : n < 1) : Above n (O₀ c) := above_add (above_O1 c h) (above_owl _ _ _ _ fun _ => h)

/-- A device may wait on a cell while it owes only cells above it. -/
theorem mayWait (c : Dev nD) (s : SemLoc sig) {O : CellTallies nD τ sig Unit} (h : Above (lv ((c : Thread nD τ), s) ()) O) :
    (levAts L lv : sProp 𝕄) ⊢ MayWait (c : Thread nD τ) s () O :=
  MayOwe.of_cut (L := L) (lev := lv) (lv ((c : Thread nD τ), s) ()) (fun p hp => by rw [Finset.mem_singleton.mp hp, L_tc]; exact Finset.mem_singleton_self _)
    (fun g u hg => (h g u hg).1) (fun p hp => by rw [Finset.mem_singleton.mp hp]) (fun g u hg => (h g u hg).2)

theorem mayWait_kc (c : Dev nD) (k : Cell) {O : CellTallies nD τ sig Unit} (h : Above (level k) O) :
    (levAts L lv : sProp 𝕄) ⊢ MayWait (c : Thread nD τ) (csem k) () O := mayWait c (csem k) (by rw [lv_kc]; exact h)

end Cert.Lookup

end
-- ==== Proof.Steps.lean ====
/-
One operation of each phase as one rule of the protocol, and the rule that runs a phase's numbered operations in order.
-/
module

public import proofs.«01_k».proof.Proof.Protocol

@[expose] public section

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program of device `c` runs and ends in `Q`. -/
abbrev WP (c : Dev nD) (p : TProg F) (Q : PUnit → sProp 𝕄) : sProp 𝕄 := wp frame (wpE (defs₀ (F := F)) 𝒱₀ (c : Thread nD τ) none) Set.univ p Q

variable (P : Dev nD → OutC F) (K : Dev nD × Cell → ℕ)

/-! ## What every device knows -/

/-- Every cell's invariant, and that it has reached round 0. -/
def records : sProp 𝕄 := bigSep Finset.univ fun ck : Dev nD × Cell => iprop(cellInv ER (Rd P) (K ck) (kc ck.1 ck.2) ∗ reached ER (kc ck.1 ck.2) 0)
def env : sProp 𝕄 := iprop(records P K ∗ levAts L lv)

instance records_persistent : BI.Persistent (records P K) := by unfold records; infer_instance
instance env_persistent : BI.Persistent (env P K) := by unfold env; infer_instance

theorem env_cell (c : Dev nD) (k : Cell) : env P K ⊢ iprop(cellInv ER (Rd P) (K (c, k)) (kc c k) ∗ reached ER (kc c k) 0) := by
  classical
  unfold env records
  exact Laws.sep_and.trans (and_elimL.trans (bigSep_elim (i := (c, k)) (Finset.mem_univ _)))
theorem env_inv (c : Dev nD) (k : Cell) : env P K ⊢ cellInv ER (Rd P) (K (c, k)) (kc c k) := (env_cell P K c k).trans (Laws.sep_and.trans and_elimL)
theorem env_reached (c : Dev nD) (k : Cell) : env P K ⊢ reached ER (kc c k) 0 := (env_cell P K c k).trans (Laws.sep_and.trans and_elimR)
theorem env_may (c : Dev nD) (k : Cell) {O : CellTallies nD τ sig Unit} (h : Above (level k) O) : env P K ⊢ MayWait (c : Thread nD τ) (csem k) () O := by
  unfold env
  exact Laws.sep_and.trans (and_elimR.trans (mayWait_kc c k h))

/-- What a device owes, whatever it has waited on. -/
def owesE (c : Dev nD) (O : CellTallies nD τ sig Unit) : sProp 𝕄 := iprop(∃ W, owes (c : Thread nD τ) O W)

/-! ## A phase -/

/-- If operation `i` takes what is held for it and the phase's state before it, and leaves its result and the state after it, then the operations in
    order take everything held for them and leave all results. -/
theorem seqL_wp {ι : Type} [DecidableEq ι] (I : sProp 𝕄) [BI.Persistent I] (R C : ι → sProp 𝕄) (S : List ι → sProp 𝕄) (f : ι → TProg F → TProg F)
    (Wp : TProg F → sProp 𝕄) (h : ∀ i l k, iprop(I ∗ R i ∗ S (i :: l)) ⊢ iprop(((C i ∗ S l) -∗ Wp k) -∗ Wp (f i k))) :
    ∀ (l : List ι) (hl : l.Nodup) (k : TProg F), iprop(I ∗ bigSep l.toFinset R ∗ S l) ⊢ iprop(((bigSep l.toFinset C ∗ S []) -∗ Wp k) -∗ Wp (seqL l f k))
  | [], _, k => by
    rw [show seqL [] f k = k from rfl]
    iintro ⟨-, HR, HS⟩ Hk
    iapply Hk
    isplitl [HR]; · iexact HR
    iexact HS
  | i :: l, hl, k => by
    have hi : i ∉ l.toFinset := fun hm => (List.nodup_cons.mp hl).1 (List.mem_toFinset.mp hm)
    have e (X : ι → sProp 𝕄) : bigSep (i :: l).toFinset X = iprop(X i ∗ bigSep l.toFinset X) := by rw [List.toFinset_cons]; exact bigSep_insert hi
    rw [e R, e C, show seqL (i :: l) f k = f i (seqL l f k) from rfl]
    iintro ⟨#HI, ⟨Hi, HR⟩, HS⟩ Hk
    iapply (h i l (seqL l f k)) $$ [Hi HS]
    · isplitr; · iexact HI
      isplitl [Hi] <;> iassumption
    iintro ⟨HC, HS⟩
    iapply (seqL_wp I R C S f Wp h l (List.nodup_cons.mp hl).2 k) $$ [HR HS]
    · isplitr; · iexact HI
      isplitl [HR] <;> iassumption
    iintro ⟨HCs, HS⟩
    iapply Hk
    isplitl [HC HCs]
    · isplitl [HC] <;> iassumption
    iexact HS

theorem seven_univ : seven.toFinset = Finset.univ := by decide
theorem three_univ : three.toFinset = Finset.univ := by decide

/-- Over all seven, all three. -/
theorem seven_wp (I : sProp 𝕄) [BI.Persistent I] (R C : Fin 7 → sProp 𝕄) (S : List (Fin 7) → sProp 𝕄) (f : Fin 7 → TProg F → TProg F)
    (Wp : TProg F → sProp 𝕄) (h : ∀ i l k, iprop(I ∗ R i ∗ S (i :: l)) ⊢ iprop(((C i ∗ S l) -∗ Wp k) -∗ Wp (f i k))) (k : TProg F) :
    iprop(I ∗ bigSep Finset.univ R ∗ S seven) ⊢ iprop(((bigSep Finset.univ C ∗ S []) -∗ Wp k) -∗ Wp (seqL seven f k)) := by
  have := seqL_wp I R C S f Wp h seven (by decide) k
  rwa [seven_univ] at this
theorem three_wp (I : sProp 𝕄) [BI.Persistent I] (R C : Fin 3 → sProp 𝕄) (S : List (Fin 3) → sProp 𝕄) (f : Fin 3 → TProg F → TProg F)
    (Wp : TProg F → sProp 𝕄) (h : ∀ i l k, iprop(I ∗ R i ∗ S (i :: l)) ⊢ iprop(((C i ∗ S l) -∗ Wp k) -∗ Wp (f i k))) (k : TProg F) :
    iprop(I ∗ bigSep Finset.univ R ∗ S three) ⊢ iprop(((bigSep Finset.univ C ∗ S []) -∗ Wp k) -∗ Wp (seqL three f k)) := by
  have := seqL_wp I R C S f Wp h three (by decide) k
  rwa [three_univ] at this

/-! ## Signals -/

/-- A signal to device `t`'s barrier paying duty `δ` of it. -/
theorem signal_step (c t : Dev nD) (δ : D) (O : CellTallies nD τ sig Unit) (k : TProg F) (Q : PUnit → sProp 𝕄) :
    iprop(env P K ∗ (dutyTok ER (kc t bar) 0 δ ∗ pay P t bar δ) ∗ owesE c (O + tallyAt (kc t bar) () 1))
      ⊢ iprop(((emp ∗ owesE c O) -∗ WP c k Q) -∗ WP c (.op (.semSignal (t, .tc) barS (1#32 : BitVec 32).toInt) fun _ => k) Q) := by
  have hd : δ ∈ (Rd P).duties (kc t bar) 0 := by rw [Rd_duties]; exact Finset.mem_univ _
  have hp : pay P t bar δ ⊢ (Rd P).payload ((t : Thread nD τ), .reg barS) 0 δ := Entails.of_eq (Rd_payload P t bar δ).symm
  unfold owesE
  iintro ⟨#HI, ⟨Ht, Hp⟩, ⟨%W, HO⟩⟩ Hk
  iapply (Rounds.wp_signal 𝒱₀ ER (Rd P) (c : Thread nD τ) none (dst := (t : Thread nD τ)) (κ := K (t, bar)) (r := 0)
      (d := δ) hd ((Rd_amount P t bar δ).trans (by decide)) () O rfl)
    $$ [HO Ht Hp]
  · isplitr; · iapply (env_inv P K t bar); iexact HI
    isplitl [HO]; · iexact HO
    isplitl [Ht]; · iexact Ht
    isplitl [Hp]; · iapply hp; iexact Hp
    iapply (env_reached P K t bar); iexact HI
  iintro HO
  iapply Hk
  isplitr; · iempintro
  iexists W; iexact HO

/-! ## Waits -/

/-- A wait for the whole of a cell with one duty hands over its payload. -/
theorem wait_step (c : Dev nD) (κ : Cell) (hκ : dut κ = {one}) (w : TpuEff nD τ sig (Elt F) Λ₀ .tc PUnit)
    (hw : ∀ X : PUnit → sProp 𝕄, wpE (defs₀ (F := F)) 𝒱₀ (c : Thread nD τ) none Set.univ w X = waitSpec (c : Thread nD τ) Set.univ (csem κ) (amt κ) X)
    (O : CellTallies nD τ sig Unit) (hO : Above (level κ) O) (k : TProg F) (Q : PUnit → sProp 𝕄) :
    iprop(env P K ∗ (atPos ER (kc c κ) 0 ∅ 0 ∗ cred (tallyAt (kc c κ) () (amt κ))) ∗ owesE c O)
      ⊢ iprop((((atPos ER (kc c κ) 1 ∅ 0 ∗ pay P c κ one) ∗ owesE c O) -∗ WP c k Q) -∗ WP c (.op w fun _ => k) Q) := by
  unfold owesE
  iintro ⟨#HI, ⟨Hat, Hc⟩, ⟨%W, HO⟩⟩ Hk
  iapply (Rounds.wp_wait_rest_token 𝒱₀ ER (Rd P) (c : Thread nD τ) none (κ := K (c, κ)) hw (Set.mem_univ _) () (O := O) (W := W) (R := 0) (m := 0) (T := ∅)
      (by rw [Rd_expect P c κ hκ, Nat.zero_add])) $$ [Hc HO Hat]
  · isplitr; · iapply (env_inv P K c κ); iexact HI
    isplitl [Hc]; · iexact Hc
    isplitl [HO]; · iexact HO
    isplitr; · iapply (env_may P K c κ hO); iexact HI
    iexact Hat
  iintro ⟨HO, Hat, -, Hpay⟩
  ihave Hp := (Entails.of_eq (Rd_rest P c κ hκ)) $$ Hpay
  iapply Hk
  isplitl [Hat Hp]
  · isplitl [Hat] <;> iassumption
  iexists _; iexact HO

/-- The barrier wait: the ten landing slots that the device's copies go to. -/
theorem bar_step (c : Dev nD) (k : TProg F) (Q : PUnit → sProp 𝕄) :
    iprop(env P K ∗ atPos ER (kc c bar) 0 ∅ 0 ∗ cred (tallyAt (kc c bar) () 10) ∗ owesE c (O2 c))
      ⊢ iprop(((atPos ER (kc c bar) 1 ∅ 0 ∗ bigSep Finset.univ (fun d => rowAny (F := F) (rp c d) d) ∗ bigSep Finset.univ (fun e => colAny (F := F) (cp c e) e) ∗ owesE c (O2 c))
          -∗ WP c k Q) -∗ WP c (.op (.semWait barS (10#32 : BitVec 32).toInt) fun _ => k) Q) := by
  unfold owesE
  iintro ⟨#HI, Hat, Hc, ⟨%W, HO⟩⟩ Hk
  iapply (Rounds.wp_wait_rest_token 𝒱₀ ER (Rd P) (c : Thread nD τ) none (κ := K (c, bar)) (wpE_semWait_eq 𝒱₀ (c : Thread nD τ) none Set.univ) (Set.mem_univ _) ()
      (O := O2 c) (W := W) (R := 0) (m := 0) (T := ∅) ((show _ = 10 by decide).trans (Rd_expect_bar P c).symm)) $$ [Hc HO Hat]
  · isplitr; · iapply (env_inv P K c bar); iexact HI
    isplitl [Hc]; · iexact Hc
    isplitl [HO]; · iexact HO
    isplitr; · iapply (env_may P K c bar (above_O2 c (show 1 < 2 by decide))); iexact HI
    iexact Hat
  iintro ⟨HO, Hat, -, Hpay⟩
  have hrest : bigSep ((Rd P).duties ((c : Thread nD τ), .reg barS) 0 \ ∅) (fun δ => (Rd P).payload ((c : Thread nD τ), .reg barS) 0 δ)
      = iprop(bigSep Finset.univ (fun d => rowAny (rm c d) d.rev) ∗ bigSep Finset.univ (fun e => colAny (cm c e) e.rev)) := Rd_rest_bar P c
  ihave Hp := (Entails.of_eq hrest) $$ Hpay
  have hr : bigSep Finset.univ (fun d : Fin 7 => rowAny (F := F) (rm c d) d.rev) = bigSep Finset.univ (fun d => rowAny (F := F) (rp c d) d) := by
    rw [bigSep_univ_equiv Fin.revPerm]; exact bigSep_congr fun d _ => by rw [Fin.revPerm_apply, rm_rev, Fin.rev_rev]
  have hc : bigSep Finset.univ (fun e : Fin 3 => colAny (F := F) (cm c e) e.rev) = bigSep Finset.univ (fun e => colAny (F := F) (cp c e) e) := by
    rw [bigSep_univ_equiv Fin.revPerm]; exact bigSep_congr fun d _ => by rw [Fin.revPerm_apply, cm_rev, Fin.rev_rev]
  icases Hp with ⟨Hrow, Hcol⟩
  ihave Hrow := (Entails.of_eq hr) $$ Hrow
  ihave Hcol := (Entails.of_eq hc) $$ Hcol
  iapply Hk
  isplitl [Hat]; · iexact Hat
  isplitl [Hrow]; · iexact Hrow
  isplitl [Hcol]; · iexact Hcol
  iexists _; iexact HO

end Cert.Lookup

end
-- ==== Proof.Copies.lean ====
/-
The four kinds of remote copy, each as one rule of the protocol.
-/
module

public import proofs.«01_k».proof.Proof.Steps

@[expose] public section

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → OutC F) (K : Dev nD × Cell → ℕ)

/-! ## The slices' elements -/

theorem outPt_out1 (c : Dev nD) (d : Fin 7) (q : PosShare TreeShare) (f : OutC F) :
    outPt c (SB (rp c d)) q f = (((out1 c d).view.loc (c : Thread nD τ)) ↦[(out1 c d).view.set]{q} f : sProp 𝕄) :=
  congrArg (fun S => (((c : Thread nD τ).loc cc0_stg2_0) ↦[S]{q} f : sProp 𝕄)) (set_out1 c d).symm
theorem outPt_out3 (c : Dev nD) (e : Fin 3) (q : PosShare TreeShare) (f : OutC F) :
    outPt c (BK (cp c e)) q f = (((out3 c e).view.loc (c : Thread nD τ)) ↦[(out3 c e).view.set]{q} f : sProp 𝕄) :=
  congrArg (fun S => (((c : Thread nD τ).loc cc0_stg2_0) ↦[S]{q} f : sProp 𝕄)) (set_out3 c e).symm
theorem outPt_out5 (c t : Dev nD) (q : PosShare TreeShare) (f : OutC F) :
    outPt t (BK c) q f = (((out5 c).view.loc (t : Thread nD τ)) ↦[(out5 c).view.set]{q} f : sProp 𝕄) :=
  congrArg (fun S => (((t : Thread nD τ).loc cc0_stg2_0) ↦[S]{q} f : sProp 𝕄)) (set_out5 c).symm
theorem outPt_out6 (c t : Dev nD) (q : PosShare TreeShare) (f : OutC F) :
    outPt t (SB c) q f = (((out6 c).view.loc (t : Thread nD τ)) ↦[(out6 c).view.set]{q} f : sProp 𝕄) :=
  congrArg (fun S => (((t : Thread nD τ).loc cc0_stg2_0) ↦[S]{q} f : sProp 𝕄)) (set_out6 c).symm
theorem rowPt_slot (t : Dev nD) (d : Fin 7) (f : FVec F S896x512 .bf16) :
    rowPt t (RS d) f = (((rowSlot d).view.loc (t : Thread nD τ)) ↦[(rowSlot d).view.set]{fullShare} f : sProp 𝕄) :=
  congrArg (fun S => (((t : Thread nD τ).loc cc0_scratch0) ↦[S]{fullShare} f : sProp 𝕄)) (set_rowSlot d).symm
theorem colPt_slot (t : Dev nD) (e : Fin 3) (f : FVec F S96x512 .bf16) :
    colPt t (CS e) f = (((colSlot e).view.loc (t : Thread nD τ)) ↦[(colSlot e).view.set]{fullShare} f : sProp 𝕄) :=
  congrArg (fun S => (((t : Thread nD τ).loc cc0_scratch1) ↦[S]{fullShare} f : sProp 𝕄)) (set_colSlot e).symm

theorem outPt_congr (c : Dev nD) (S) (q : PosShare TreeShare) {f g : OutC F} (h : ∀ i ∈ S, f i = g i) : outPt c S q f = outPt c S q g :=
  pointsTo_congr (Ix := Unit) (Name := ℕ) (U := UU) (Lvl := ℕ) h
theorem rowPt_congr (c : Dev nD) (S) {f g : FVec F S896x512 .bf16} (h : ∀ i ∈ S, f i = g i) : rowPt c S f = rowPt c S g :=
  pointsTo_congr (Ix := Unit) (Name := ℕ) (U := UU) (Lvl := ℕ) h
theorem colPt_congr (c : Dev nD) (S) {f g : FVec F S96x512 .bf16} (h : ∀ i ∈ S, f i = g i) : colPt c S f = colPt c S g :=
  pointsTo_congr (Ix := Unit) (Name := ℕ) (U := UU) (Lvl := ℕ) h

/-! ## What the copies hand over -/

theorem row_pay (c : Dev nD) (d : Fin 7) (fd : FVec F S896x512 .bf16) :
    iprop(rowPt (rp c d) (RS d) ((rowSlot d).view.write (Elt F) fd ((out1 c d).view.read (Elt F) (P c)) Finset.univ) ∗ outPt c (SB (rp c d)) fullShare (P c))
      ⊢ pay P (rp c d) (rsR d) one := by
  show _ ⊢ iprop(rowPt (rp c d) (RS d) (rowFull P (rp c d)) ∗ outAny (rm (rp c d) d) (SB (rp c d)))
  rw [rm_rp, rowPt_congr _ _ (land_row P c d fd)]
  unfold outAny
  iintro ⟨H1, H2⟩
  isplitl [H1]; · iexact H1
  iexists _; iexact H2
theorem col_pay (c : Dev nD) (e : Fin 3) (fd : FVec F S96x512 .bf16) :
    iprop(colPt (cp c e) (CS e) ((colSlot e).view.write (Elt F) fd ((out3 c e).view.read (Elt F) (sumRow P c)) Finset.univ) ∗ outPt c (BK (cp c e)) fullShare (sumRow P c))
      ⊢ pay P (cp c e) (csR e) one := by
  show _ ⊢ iprop(colPt (cp c e) (CS e) (colFull P (cp c e)) ∗ outAny (cm (cp c e) e) (BK (cp c e)))
  rw [cm_cp, colPt_congr _ _ (land_col P c e fd)]
  unfold outAny
  iintro ⟨H1, H2⟩
  isplitl [H1]; · iexact H1
  iexists _; iexact H2
theorem gcol_pay (c : Dev nD) (e : Fin 3) (fd : OutC F) :
    outPt (cp c e) (BK c) fullShare ((out5 c).view.write (Elt F) fd ((out5 c).view.read (Elt F) (fin P)) Finset.univ) ⊢ pay P (cp c e) (gcR e) one := by
  show _ ⊢ outPt (cp c e) (BK (cm (cp c e) e)) fullShare (fin P)
  rw [cm_cp, outPt_congr _ _ _ (land_gcol P c fd)]
theorem grow_pay (c : Dev nD) (d : Fin 7) (fd : OutC F) :
    outPt (rp c d) (SB c) fullShare ((out6 c).view.write (Elt F) fd ((out6 c).view.read (Elt F) (fin P)) Finset.univ) ⊢ pay P (rp c d) (grR d) one := by
  show _ ⊢ outPt (rp c d) (SB (rm (rp c d) d)) fullShare (fin P)
  rw [rm_rp, outPt_congr _ _ _ (land_grow P c fd)]

/-! ## The copies -/

theorem mem_dut (c : Dev nD) (k : Cell) (h : dut k = {one}) : one ∈ (Rd P).duties (kc c k) 0 := by rw [Rd_duties, h]; exact Finset.mem_singleton_self _

/-- The row exchange's copy `d`. -/
theorem rsRow_step (c : Dev nD) (d : Fin 7) (O : CellTallies nD τ sig Unit) (k : TProg F) (Q : PUnit → sProp 𝕄) :
    iprop(env P K ∗ (dutyTok ER (kc c (rsS d)) 0 one ∗ dutyTok ER (kc (rp c d) (rsR d)) 0 one ∗ outPt c (SB (rp c d)) fullShare (P c) ∗ rowAny (F := F) (rp c d) d)
        ∗ owesE c (O + tallyAt (kc (rp c d) (rsR d)) () N1))
      ⊢ iprop(((cred (tallyAt (kc c (rsS d)) () N1) ∗ owesE c O) -∗ WP c k Q) -∗ WP c (rsRowOp c d k) Q) := by
  unfold rsRowOp
  rw [rsRow_eq c d]
  unfold owesE rsRowTo rowAny
  rw [outPt_out1]
  iintro ⟨#HI, ⟨Ht1, Ht2, Hs, ⟨%fd, Hd⟩⟩, ⟨%W, HO⟩⟩ Hk
  ihave Hd := (Entails.of_eq (rowPt_slot (rp c d) d fd)) $$ Hd
  iapply (Rounds.wp_send_landing_pointsTo 𝒱₀ ER (Rd P) (c : Thread nD τ) none (κ₁ := K (c, rsS d)) (κ₂ := K (rp c d, rsR d)) (c' := (rp c d : Thread nD τ))
      (src := out1 c d) (dst := rowSlot d) (sS := .dma (sem8 cc0_scratch2 d.succ)) (sem := .dma (sem8 cc0_scratch3 d.succ))
      (r₁ := 0) (r₂ := 0) (d₁ := one) (d₂ := one) (fd := fd) (mem_dut P c (rsS d) rfl) (mem_dut P (rp c d) (rsR d) rfl)
      () () N1 rfl (Rd_amount P c (rsS d) one) (Rd_amount P (rp c d) (rsR d) one) O rfl (W := W)
      (Entails.of_eq (Rd_payload P c (rsS d) one).symm)
      (by
        refine BIBase.Entails.trans ?_ (Entails.of_eq (Rd_payload P (rp c d) (rsR d) one).symm)
        rw [← rowPt_slot, ← outPt_out1]
        exact row_pay P c d fd)) $$ [Ht1 Ht2 Hs Hd HO]
  · isplitr; · iapply (env_inv P K c (rsS d)); iexact HI
    isplitr; · iapply (env_inv P K (rp c d) (rsR d)); iexact HI
    isplitl [Hs]; · iexact Hs
    isplitl [Hd]; · iexact Hd
    isplitl [HO]; · iexact HO
    isplitl [Ht1]; · iexact Ht1
    isplitr; · iapply (env_reached P K c (rsS d)); iexact HI
    isplitl [Ht2]; · iexact Ht2
    iapply (env_reached P K (rp c d) (rsR d)); iexact HI
  iintro ⟨Hc, HO⟩
  iapply Hk
  isplitl [Hc]; · iexact Hc
  iexists W; iexact HO

/-- The column exchange's copy `e`. -/
theorem rsCol_step (c : Dev nD) (e : Fin 3) (O : CellTallies nD τ sig Unit) (k : TProg F) (Q : PUnit → sProp 𝕄) :
    iprop(env P K ∗ (dutyTok ER (kc c (csS e)) 0 one ∗ dutyTok ER (kc (cp c e) (csR e)) 0 one ∗ outPt c (BK (cp c e)) fullShare (sumRow P c) ∗ colAny (F := F) (cp c e) e)
        ∗ owesE c (O + tallyAt (kc (cp c e) (csR e)) () N2))
      ⊢ iprop(((cred (tallyAt (kc c (csS e)) () N2) ∗ owesE c O) -∗ WP c k Q) -∗ WP c (rsColOp c e k) Q) := by
  unfold rsColOp
  rw [rsCol_eq c e]
  unfold owesE rsColTo colAny
  rw [outPt_out3]
  iintro ⟨#HI, ⟨Ht1, Ht2, Hs, ⟨%fd, Hd⟩⟩, ⟨%W, HO⟩⟩ Hk
  ihave Hd := (Entails.of_eq (colPt_slot (cp c e) e fd)) $$ Hd
  iapply (Rounds.wp_send_landing_pointsTo 𝒱₀ ER (Rd P) (c : Thread nD τ) none (κ₁ := K (c, csS e)) (κ₂ := K (cp c e, csR e)) (c' := (cp c e : Thread nD τ))
      (src := out3 c e) (dst := colSlot e) (sS := .dma (sem4 cc0_scratch4 e.succ)) (sem := .dma (sem4 cc0_scratch5 e.succ))
      (r₁ := 0) (r₂ := 0) (d₁ := one) (d₂ := one) (fd := fd) (mem_dut P c (csS e) rfl) (mem_dut P (cp c e) (csR e) rfl)
      () () N2 rfl (Rd_amount P c (csS e) one) (Rd_amount P (cp c e) (csR e) one) O rfl (W := W)
      (Entails.of_eq (Rd_payload P c (csS e) one).symm)
      (by
        refine BIBase.Entails.trans ?_ (Entails.of_eq (Rd_payload P (cp c e) (csR e) one).symm)
        rw [← colPt_slot, ← outPt_out3]
        exact col_pay P c e fd)) $$ [Ht1 Ht2 Hs Hd HO]
  · isplitr; · iapply (env_inv P K c (csS e)); iexact HI
    isplitr; · iapply (env_inv P K (cp c e) (csR e)); iexact HI
    isplitl [Hs]; · iexact Hs
    isplitl [Hd]; · iexact Hd
    isplitl [HO]; · iexact HO
    isplitl [Ht1]; · iexact Ht1
    isplitr; · iapply (env_reached P K c (csS e)); iexact HI
    isplitl [Ht2]; · iexact Ht2
    iapply (env_reached P K (cp c e) (csR e)); iexact HI
  iintro ⟨Hc, HO⟩
  iapply Hk
  isplitl [Hc]; · iexact Hc
  iexists W; iexact HO

/-- The column gather's copy `e`, from a third of the share of the device's finished 32 rows. -/
theorem agCol_step (c : Dev nD) (e : Fin 3) (O : CellTallies nD τ sig Unit) (k : TProg F) (Q : PUnit → sProp 𝕄) :
    iprop(env P K ∗ (dutyTok ER (kc c (gcS e)) 0 one ∗ dutyTok ER (kc (cp c e) (gcR e)) 0 one ∗ outPt c (BK c) (q3 e) (fin P) ∗ outAny (F := F) (cp c e) (BK c))
        ∗ owesE c (O + tallyAt (kc (cp c e) (gcR e)) () N2))
      ⊢ iprop(((cred (tallyAt (kc c (gcS e)) () N2) ∗ owesE c O) -∗ WP c k Q) -∗ WP c (agColOp c e k) Q) := by
  unfold agColOp
  rw [agCol_eq c e]
  unfold owesE agColTo outAny
  rw [outPt_out5]
  iintro ⟨#HI, ⟨Ht1, Ht2, Hs, ⟨%fd, Hd⟩⟩, ⟨%W, HO⟩⟩ Hk
  ihave Hd := (Entails.of_eq (outPt_out5 c (cp c e) fullShare fd)) $$ Hd
  iapply (Rounds.wp_send_pointsTo 𝒱₀ ER (Rd P) (c : Thread nD τ) none (κ₁ := K (c, gcS e)) (κ₂ := K (cp c e, gcR e)) (c' := (cp c e : Thread nD τ))
      (src := out5 c) (dst := out5 c) (sS := .dma (sem4 cc0_scratch6 e.succ)) (sem := .dma (sem4 cc0_scratch7 e.succ))
      (r₁ := 0) (r₂ := 0) (d₁ := one) (d₂ := one) (fd := fd) (mem_dut P c (gcS e) rfl) (mem_dut P (cp c e) (gcR e) rfl)
      () () N2 rfl (Rd_amount P c (gcS e) one) (Rd_amount P (cp c e) (gcR e) one) O rfl (W := W)
      (by
        refine BIBase.Entails.trans ?_ (Entails.of_eq (Rd_payload P c (gcS e) one).symm)
        rw [← outPt_out5]
        exact BIBase.Entails.rfl)
      (by
        refine BIBase.Entails.trans ?_ (Entails.of_eq (Rd_payload P (cp c e) (gcR e) one).symm)
        rw [← outPt_out5]
        exact gcol_pay P c e fd)) $$ [Ht1 Ht2 Hs Hd HO]
  · isplitr; · iapply (env_inv P K c (gcS e)); iexact HI
    isplitr; · iapply (env_inv P K (cp c e) (gcR e)); iexact HI
    isplitl [Hs]; · iexact Hs
    isplitl [Hd]; · iexact Hd
    isplitl [HO]; · iexact HO
    isplitl [Ht1]; · iexact Ht1
    isplitr; · iapply (env_reached P K c (gcS e)); iexact HI
    isplitl [Ht2]; · iexact Ht2
    iapply (env_reached P K (cp c e) (gcR e)); iexact HI
  iintro ⟨Hc, HO⟩
  iapply Hk
  isplitl [Hc]; · iexact Hc
  iexists W; iexact HO

/-- The row gather's copy `d`, from a seventh of the share of the device's finished 128 rows. -/
theorem agRow_step (c : Dev nD) (d : Fin 7) (O : CellTallies nD τ sig Unit) (k : TProg F) (Q : PUnit → sProp 𝕄) :
    iprop(env P K ∗ (dutyTok ER (kc c (grS d)) 0 one ∗ dutyTok ER (kc (rp c d) (grR d)) 0 one ∗ outPt c (SB c) (q7 d) (fin P) ∗ outAny (F := F) (rp c d) (SB c))
        ∗ owesE c (O + tallyAt (kc (rp c d) (grR d)) () N1))
      ⊢ iprop(((cred (tallyAt (kc c (grS d)) () N1) ∗ owesE c O) -∗ WP c k Q) -∗ WP c (agRowOp c d k) Q) := by
  unfold agRowOp
  rw [agRow_eq c d]
  unfold owesE agRowTo outAny
  rw [outPt_out6]
  iintro ⟨#HI, ⟨Ht1, Ht2, Hs, ⟨%fd, Hd⟩⟩, ⟨%W, HO⟩⟩ Hk
  ihave Hd := (Entails.of_eq (outPt_out6 c (rp c d) fullShare fd)) $$ Hd
  iapply (Rounds.wp_send_pointsTo 𝒱₀ ER (Rd P) (c : Thread nD τ) none (κ₁ := K (c, grS d)) (κ₂ := K (rp c d, grR d)) (c' := (rp c d : Thread nD τ))
      (src := out6 c) (dst := out6 c) (sS := .dma (sem8 cc0_scratch8 d.succ)) (sem := .dma (sem8 cc0_scratch9 d.succ))
      (r₁ := 0) (r₂ := 0) (d₁ := one) (d₂ := one) (fd := fd) (mem_dut P c (grS d) rfl) (mem_dut P (rp c d) (grR d) rfl)
      () () N1 rfl (Rd_amount P c (grS d) one) (Rd_amount P (rp c d) (grR d) one) O rfl (W := W)
      (by
        refine BIBase.Entails.trans ?_ (Entails.of_eq (Rd_payload P c (grS d) one).symm)
        rw [← outPt_out6]
        exact BIBase.Entails.rfl)
      (by
        refine BIBase.Entails.trans ?_ (Entails.of_eq (Rd_payload P (rp c d) (grR d) one).symm)
        rw [← outPt_out6]
        exact grow_pay P c d fd)) $$ [Ht1 Ht2 Hs Hd HO]
  · isplitr; · iapply (env_inv P K c (grS d)); iexact HI
    isplitr; · iapply (env_inv P K (rp c d) (grR d)); iexact HI
    isplitl [Hs]; · iexact Hs
    isplitl [Hd]; · iexact Hd
    isplitl [HO]; · iexact HO
    isplitl [Ht1]; · iexact Ht1
    isplitr; · iapply (env_reached P K c (grS d)); iexact HI
    isplitl [Ht2]; · iexact Ht2
    iapply (env_reached P K (rp c d) (grR d)); iexact HI
  iintro ⟨Hc, HO⟩
  iapply Hk
  isplitl [Hc]; · iexact Hc
  iexists W; iexact HO

end Cert.Lookup

end
-- ==== Proof.Phases.lean ====
/-
Whole phases of the body: all copies of one kind, all waits of one kind, the lookup, the two sums, the closing of the
cells; and how the rows of the buffers are dealt out before the copies and joined after the waits.
-/
module

public import proofs.«01_k».proof.Proof.Copies

@[expose] public section

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → OutC F) (K : Dev nD × Cell → ℕ)

/-! ## Rows dealt out and joined -/

/-- A family over a head and a tail. -/
theorem bigSep_head {ι : Type} [Fintype ι] [DecidableEq ι] (Φ : Unit ⊕ ι → sProp 𝕄) :
    bigSep Finset.univ Φ = iprop(Φ (.inl ()) ∗ bigSep Finset.univ fun i => Φ (.inr i)) := by
  rw [bigSep_univ_sum]
  have : bigSep Finset.univ (fun u : Unit => Φ (.inl u)) = Φ (.inl ()) := by
    rw [show (Finset.univ : Finset Unit) = {()} from rfl, bigSep_singleton]
  exact congrArg (fun X => BI.sep X (bigSep Finset.univ fun i => Φ (.inr i))) this

theorem out_parts (c : Dev nD) (q : PosShare TreeShare) (f : OutC F) :
    outPt c Finset.univ q f = iprop(outPt c (SB c) q f ∗ bigSep Finset.univ fun d => outPt c (SB (rp c d)) q f) :=
  (Ring.pointsTo_blocks (Val := Elt F) (Ix := Unit) (Name := ℕ) (U := UU) (Lvl := ℕ) (ℓ := (c : Thread nD τ).loc cc0_stg2_0) (sbPart c) (sbPart_apart c) (sbPart_cover c) f).trans
    (bigSep_head fun b => outPt c (sbPart c b) q f)
theorem out_parts' (c : Dev nD) (q : PosShare TreeShare) (f : OutC F) :
    outPt c Finset.univ q f = iprop(outPt c (SB c) q f ∗ bigSep Finset.univ fun d => outPt c (SB (rm c d)) q f) :=
  (Ring.pointsTo_blocks (Val := Elt F) (Ix := Unit) (Name := ℕ) (U := UU) (Lvl := ℕ) (ℓ := (c : Thread nD τ).loc cc0_stg2_0) (sbPart' c) (sbPart'_apart c) (sbPart'_cover c) f).trans
    (bigSep_head fun b => outPt c (sbPart' c b) q f)
theorem sb_parts (c : Dev nD) (q : PosShare TreeShare) (f : OutC F) :
    outPt c (SB c) q f = iprop(outPt c (BK c) q f ∗ bigSep Finset.univ fun e => outPt c (BK (cp c e)) q f) := by
  rw [← bkPart_cover]
  exact (pointsTo_biUnion (Ix := Unit) (Name := ℕ) (U := UU) (Lvl := ℕ) (ℓ := (c : Thread nD τ).loc cc0_stg2_0) Finset.univ (bkPart c) fun b _ b' _ h => bkPart_apart c b b' h).trans
    (bigSep_head fun b => outPt c (bkPart c b) q f)
theorem sb_parts' (c : Dev nD) (q : PosShare TreeShare) (f : OutC F) :
    outPt c (SB c) q f = iprop(outPt c (BK c) q f ∗ bigSep Finset.univ fun e => outPt c (BK (cm c e)) q f) := by
  rw [← bkPart'_cover]
  exact (pointsTo_biUnion (Ix := Unit) (Name := ℕ) (U := UU) (Lvl := ℕ) (ℓ := (c : Thread nD τ).loc cc0_stg2_0) Finset.univ (bkPart' c) fun b _ b' _ h => bkPart'_apart c b b' h).trans
    (bigSep_head fun b => outPt c (bkPart' c b) q f)
theorem row_parts (c : Dev nD) (f : FVec F S896x512 .bf16) : rowPt c Finset.univ f = bigSep Finset.univ fun d => rowPt c (RS d) f :=
  Ring.pointsTo_blocks (Val := Elt F) (Ix := Unit) (Name := ℕ) (U := UU) (Lvl := ℕ) (ℓ := (c : Thread nD τ).loc cc0_scratch0) RS RS_apart RS_cover f
theorem col_parts (c : Dev nD) (f : FVec F S96x512 .bf16) : colPt c Finset.univ f = bigSep Finset.univ fun e => colPt c (CS e) f :=
  Ring.pointsTo_blocks (Val := Elt F) (Ix := Unit) (Name := ℕ) (U := UU) (Lvl := ℕ) (ℓ := (c : Thread nD τ).loc cc0_scratch1) CS CS_apart CS_cover f

/-- The finished rows lent to the gather copies. -/
theorem lend7 (c : Dev nD) (S) (f : OutC F) : outPt c S fullShare f = bigSep Finset.univ fun d => outPt c S (q7 d) f :=
  pointsTo_piecesOf (Val := Elt F) (Ix := Unit) (Name := ℕ) (U := UU) (Lvl := ℕ) (ℓ := (c : Thread nD τ).loc cc0_stg2_0) S f (o := 7) (by decide) fullShare
theorem lend3 (c : Dev nD) (S) (f : OutC F) : outPt c S fullShare f = bigSep Finset.univ fun e => outPt c S (q3 e) f :=
  pointsTo_piecesOf (Val := Elt F) (Ix := Unit) (Name := ℕ) (U := UU) (Lvl := ℕ) (ℓ := (c : Thread nD τ).loc cc0_stg2_0) S f (o := 3) (by decide) fullShare

/-- A family counted from the other end. -/
theorem bigSep_rev {n : ℕ} (Φ : Fin n → sProp 𝕄) : bigSep Finset.univ Φ = bigSep Finset.univ fun d : Fin n => Φ d.rev :=
  bigSep_univ_equiv Fin.revPerm Φ

/-! ## The signals -/

theorem sigRow_phase (c : Dev nD) (k : TProg F) (Q : PUnit → sProp 𝕄) :
    iprop(env P K ∗ bigSep Finset.univ (fun d : Fin 7 => iprop(dutyTok ER (kc (rp c d) bar) 0 (.inl d) ∗ pay P (rp c d) bar (.inl d))) ∗ owesE c (O₀ c))
      ⊢ iprop(((bigSep Finset.univ (fun _ : Fin 7 => iprop(emp)) ∗ owesE c (O1 c)) -∗ WP c k Q) -∗ WP c (seqL seven (sigRowOp c) k) Q) := by
  have h := seven_wp (env P K) (fun d => iprop(dutyTok ER (kc (rp c d) bar) 0 (.inl d) ∗ pay P (rp c d) bar (.inl d))) (fun _ => iprop(emp))
    (fun l => owesE c (O1 c + owl l (rp c) (fun _ => bar) 1)) (sigRowOp c) (fun p => WP c p Q) (fun d l k => by
      unfold sigRowOp; rw [sigRow_eq c d, owl_cons]
      exact signal_step P K c (rp c d) (.inl d) _ k Q) k
  rwa [owl_nil] at h
theorem sigCol_phase (c : Dev nD) (k : TProg F) (Q : PUnit → sProp 𝕄) :
    iprop(env P K ∗ bigSep Finset.univ (fun e : Fin 3 => iprop(dutyTok ER (kc (cp c e) bar) 0 (.inr e) ∗ pay P (cp c e) bar (.inr e))) ∗ owesE c (O1 c))
      ⊢ iprop(((bigSep Finset.univ (fun _ : Fin 3 => iprop(emp)) ∗ owesE c (O2 c)) -∗ WP c k Q) -∗ WP c (seqL three (sigColOp c) k) Q) := by
  have h := three_wp (env P K) (fun e => iprop(dutyTok ER (kc (cp c e) bar) 0 (.inr e) ∗ pay P (cp c e) bar (.inr e))) (fun _ => iprop(emp))
    (fun l => owesE c (O2 c + owl l (cp c) (fun _ => bar) 1)) (sigColOp c) (fun p => WP c p Q) (fun e l k => by
      unfold sigColOp; rw [sigCol_eq c e, owl_cons]
      exact signal_step P K c (cp c e) (.inr e) _ k Q) k
  rwa [owl_nil] at h

/-! ## The copies -/

theorem rsRow_phase (c : Dev nD) (k : TProg F) (Q : PUnit → sProp 𝕄) :
    iprop(env P K ∗ bigSep Finset.univ (fun d : Fin 7 => iprop(dutyTok ER (kc c (rsS d)) 0 one ∗ dutyTok ER (kc (rp c d) (rsR d)) 0 one
          ∗ outPt c (SB (rp c d)) fullShare (P c) ∗ rowAny (F := F) (rp c d) d)) ∗ owesE c (O2 c))
      ⊢ iprop(((bigSep Finset.univ (fun d : Fin 7 => cred (tallyAt (kc c (rsS d)) () N1)) ∗ owesE c (O3 c)) -∗ WP c k Q) -∗ WP c (seqL seven (rsRowOp c) k) Q) := by
  have h := seven_wp (env P K) _ (fun d : Fin 7 => cred (tallyAt (kc c (rsS d)) () N1)) (fun l => owesE c (O3 c + owl l (rp c) rsR N1)) (rsRowOp c) (fun p => WP c p Q)
    (fun d l k => by rw [owl_cons]; exact rsRow_step P K c d _ k Q) k
  rwa [owl_nil] at h
theorem rsCol_phase (c : Dev nD) (k : TProg F) (Q : PUnit → sProp 𝕄) :
    iprop(env P K ∗ bigSep Finset.univ (fun e : Fin 3 => iprop(dutyTok ER (kc c (csS e)) 0 one ∗ dutyTok ER (kc (cp c e) (csR e)) 0 one
          ∗ outPt c (BK (cp c e)) fullShare (sumRow P c) ∗ colAny (F := F) (cp c e) e)) ∗ owesE c (O3 c))
      ⊢ iprop(((bigSep Finset.univ (fun e : Fin 3 => cred (tallyAt (kc c (csS e)) () N2)) ∗ owesE c (O4 c)) -∗ WP c k Q) -∗ WP c (seqL three (rsColOp c) k) Q) := by
  have h := three_wp (env P K) _ (fun e : Fin 3 => cred (tallyAt (kc c (csS e)) () N2)) (fun l => owesE c (O4 c + owl l (cp c) csR N2)) (rsColOp c) (fun p => WP c p Q)
    (fun e l k => by rw [owl_cons]; exact rsCol_step P K c e _ k Q) k
  rwa [owl_nil] at h
theorem agCol_phase (c : Dev nD) (k : TProg F) (Q : PUnit → sProp 𝕄) :
    iprop(env P K ∗ bigSep Finset.univ (fun e : Fin 3 => iprop(dutyTok ER (kc c (gcS e)) 0 one ∗ dutyTok ER (kc (cp c e) (gcR e)) 0 one
          ∗ outPt c (BK c) (q3 e) (fin P) ∗ outAny (F := F) (cp c e) (BK c))) ∗ owesE c (O4 c))
      ⊢ iprop(((bigSep Finset.univ (fun e : Fin 3 => cred (tallyAt (kc c (gcS e)) () N2)) ∗ owesE c (O5 c)) -∗ WP c k Q) -∗ WP c (seqL three (agColOp c) k) Q) := by
  have h := three_wp (env P K) _ (fun e : Fin 3 => cred (tallyAt (kc c (gcS e)) () N2)) (fun l => owesE c (O5 c + owl l (cp c) gcR N2)) (agColOp c) (fun p => WP c p Q)
    (fun e l k => by rw [owl_cons]; exact agCol_step P K c e _ k Q) k
  rwa [owl_nil] at h
theorem agRow_phase (c : Dev nD) (k : TProg F) (Q : PUnit → sProp 𝕄) :
    iprop(env P K ∗ bigSep Finset.univ (fun d : Fin 7 => iprop(dutyTok ER (kc c (grS d)) 0 one ∗ dutyTok ER (kc (rp c d) (grR d)) 0 one
          ∗ outPt c (SB c) (q7 d) (fin P) ∗ outAny (F := F) (rp c d) (SB c))) ∗ owesE c (O5 c))
      ⊢ iprop(((bigSep Finset.univ (fun d : Fin 7 => cred (tallyAt (kc c (grS d)) () N1)) ∗ owesE c 0) -∗ WP c k Q) -∗ WP c (seqL seven (agRowOp c) k) Q) := by
  have h := seven_wp (env P K) _ (fun d : Fin 7 => cred (tallyAt (kc c (grS d)) () N1)) (fun l => owesE c (0 + owl l (rp c) grR N1)) (agRowOp c) (fun p => WP c p Q)
    (fun d l k => by rw [owl_cons]; exact agRow_step P K c d _ k Q) k
  rwa [owl_nil] at h

/-! ## The waits -/

/-- A family's state before its waits, and after them. -/
abbrev before (c : Dev nD) (k : Cell) : sProp 𝕄 := iprop(atPos ER (kc c k) 0 ∅ 0 ∗ cred (tallyAt (kc c k) () (amt k)))
abbrev done (c : Dev nD) (k : Cell) : sProp 𝕄 := iprop(atPos ER (kc c k) 1 ∅ 0 ∗ pay P c k one)

/-- A wait on a copy's semaphore. -/
theorem waitDma_step (c : Dev nD) (κ : Cell) (hκ : dut κ = {one}) (s : DmaSem sig) (hs : csem κ = .dma s)
    {sp sp' : Space} {sh sh' : Shape} {e e' : EltTy} (src : Memref sig .tc sp' sh' e') (dst : Memref sig .tc sp sh e) {hsrc : src.view.WordExact} {hdst : dst.view.WordExact}
    (hN : dst.view.dmaCredit = amt κ) (O : CellTallies nD τ sig Unit) (hO : Above (level κ) O) (k : TProg F) (Q : PUnit → sProp 𝕄) :
    iprop(env P K ∗ before (F := F) c κ ∗ owesE c O)
      ⊢ iprop(((done P c κ ∗ owesE c O) -∗ WP c k Q) -∗ WP c (.op (.waitDma2 s src dst hsrc hdst) fun _ => k) Q) :=
  wait_step P K c κ hκ _ (fun X => by rw [hs, ← hN]; rfl) O hO k Q

theorem rsRowWait_phase (c : Dev nD) (k : TProg F) (Q : PUnit → sProp 𝕄) :
    iprop(env P K ∗ bigSep Finset.univ (fun d : Fin 7 => before (F := F) c (rsR d)) ∗ owesE c (O3 c))
      ⊢ iprop(((bigSep Finset.univ (fun d : Fin 7 => done P c (rsR d)) ∗ owesE c (O3 c)) -∗ WP c k Q) -∗ WP c (seqL seven (rsRowWait c) k) Q) :=
  seven_wp (env P K) _ (fun d : Fin 7 => done P c (rsR d)) (fun _ => owesE c (O3 c)) (rsRowWait c) (fun p => WP c p Q)
    (fun d l k => by
      unfold rsRowWait
      exact waitDma_step P K c (rsR d) rfl (sem8 cc0_scratch3 d.succ) rfl (out1 c d) (rowSlot d) rfl (O3 c) (above_O3 c (show 2 < 3 by decide)) k Q) k
theorem rsColWait_phase (c : Dev nD) (k : TProg F) (Q : PUnit → sProp 𝕄) :
    iprop(env P K ∗ bigSep Finset.univ (fun e : Fin 3 => before (F := F) c (csR e)) ∗ owesE c (O4 c))
      ⊢ iprop(((bigSep Finset.univ (fun e : Fin 3 => done P c (csR e)) ∗ owesE c (O4 c)) -∗ WP c k Q) -∗ WP c (seqL three (rsColWait c) k) Q) :=
  three_wp (env P K) _ (fun e : Fin 3 => done P c (csR e)) (fun _ => owesE c (O4 c)) (rsColWait c) (fun p => WP c p Q)
    (fun e l k => by
      unfold rsColWait
      exact waitDma_step P K c (csR e) rfl (sem4 cc0_scratch5 e.succ) rfl (out3 c e) (colSlot e) rfl (O4 c) (above_O4 c (show 3 < 4 by decide)) k Q) k
theorem rsRowWaitS_phase (c : Dev nD) (k : TProg F) (Q : PUnit → sProp 𝕄) :
    iprop(env P K ∗ bigSep Finset.univ (fun d : Fin 7 => before (F := F) c (rsS d)) ∗ owesE c 0)
      ⊢ iprop(((bigSep Finset.univ (fun d : Fin 7 => done P c (rsS d)) ∗ owesE c 0) -∗ WP c k Q) -∗ WP c (seqL seven (rsRowWaitS c) k) Q) :=
  seven_wp (env P K) _ (fun d : Fin 7 => done P c (rsS d)) (fun _ => owesE c 0) (rsRowWaitS c) (fun p => WP c p Q)
    (fun d l k => by
      unfold rsRowWaitS
      exact waitDma_step P K c (rsS d) rfl (sem8 cc0_scratch2 d.succ) rfl (rowSlot d) (out1 c d) rfl 0 (above_zero _) k Q) k
theorem rsColWaitS_phase (c : Dev nD) (k : TProg F) (Q : PUnit → sProp 𝕄) :
    iprop(env P K ∗ bigSep Finset.univ (fun e : Fin 3 => before (F := F) c (csS e)) ∗ owesE c 0)
      ⊢ iprop(((bigSep Finset.univ (fun e : Fin 3 => done P c (csS e)) ∗ owesE c 0) -∗ WP c k Q) -∗ WP c (seqL three (rsColWaitS c) k) Q) :=
  three_wp (env P K) _ (fun e : Fin 3 => done P c (csS e)) (fun _ => owesE c 0) (rsColWaitS c) (fun p => WP c p Q)
    (fun e l k => by
      unfold rsColWaitS
      exact waitDma_step P K c (csS e) rfl (sem4 cc0_scratch4 e.succ) rfl (colSlot e) (out3 c e) rfl 0 (above_zero _) k Q) k

/-- Two waits in a row. -/
theorem wait2_step (c : Dev nD) (κ κ' : Cell) (hκ : dut κ = {one}) (hκ' : dut κ' = {one}) (s s' : DmaSem sig) (hs : csem κ = .dma s) (hs' : csem κ' = .dma s')
    {sp : Space} {sh : Shape} {e : EltTy} (m : Memref sig .tc sp sh e) {h1 h2 h3 h4 : m.view.WordExact}
    (hN : m.view.dmaCredit = amt κ) (hN' : m.view.dmaCredit = amt κ')
    (O : CellTallies nD τ sig Unit) (hO : Above (level κ) O) (hO' : Above (level κ') O) (k : TProg F) (Q : PUnit → sProp 𝕄) :
    iprop(env P K ∗ (before (F := F) c κ ∗ before (F := F) c κ') ∗ owesE c O)
      ⊢ iprop((((done P c κ ∗ done P c κ') ∗ owesE c O) -∗ WP c k Q) -∗ WP c (.op (.waitDma2 s m m h1 h2) fun _ => .op (.waitDma2 s' m m h3 h4) fun _ => k) Q) := by
  iintro ⟨#HI, ⟨H1, H2⟩, HO⟩ Hk
  iapply (waitDma_step P K c κ hκ s hs m m hN O hO (.op (.waitDma2 s' m m h3 h4) fun _ => k) Q) $$ [H1 HO]
  · isplitr; · iexact HI
    isplitl [H1] <;> iassumption
  iintro ⟨H1, HO⟩
  iapply (waitDma_step P K c κ' hκ' s' hs' m m hN' O hO' k Q) $$ [H2 HO]
  · isplitr; · iexact HI
    isplitl [H2] <;> iassumption
  iintro ⟨H2, HO⟩
  iapply Hk
  isplitl [H1 H2]
  · isplitl [H1] <;> iassumption
  iexact HO

theorem agColWait_phase (c : Dev nD) (k : TProg F) (Q : PUnit → sProp 𝕄) :
    iprop(env P K ∗ bigSep Finset.univ (fun e : Fin 3 => iprop(before (F := F) c (gcS e) ∗ before (F := F) c (gcR e))) ∗ owesE c (O5 c))
      ⊢ iprop(((bigSep Finset.univ (fun e : Fin 3 => iprop(done P c (gcS e) ∗ done P c (gcR e))) ∗ owesE c (O5 c)) -∗ WP c k Q)
          -∗ WP c (seqL three (fun e k => agColWaitS c e (agColWaitR c e k)) k) Q) :=
  three_wp (env P K) _ (fun e : Fin 3 => iprop(done P c (gcS e) ∗ done P c (gcR e))) (fun _ => owesE c (O5 c)) (fun e k => agColWaitS c e (agColWaitR c e k)) (fun p => WP c p Q)
    (fun e l k => by
      unfold agColWaitS agColWaitR
      exact wait2_step P K c (gcS e) (gcR e) rfl rfl (sem4 cc0_scratch6 e.succ) (sem4 cc0_scratch7 e.succ) rfl rfl (out5 c) rfl rfl (O5 c) (above_O5 c (show 0 < 5 by decide)) (above_O5 c (show 4 < 5 by decide)) k Q) k
theorem agRowWait_phase (c : Dev nD) (k : TProg F) (Q : PUnit → sProp 𝕄) :
    iprop(env P K ∗ bigSep Finset.univ (fun d : Fin 7 => iprop(before (F := F) c (grS d) ∗ before (F := F) c (grR d))) ∗ owesE c 0)
      ⊢ iprop(((bigSep Finset.univ (fun d : Fin 7 => iprop(done P c (grS d) ∗ done P c (grR d))) ∗ owesE c 0) -∗ WP c k Q)
          -∗ WP c (seqL seven (fun d k => agRowWaitS c d (agRowWaitR c d k)) k) Q) :=
  seven_wp (env P K) _ (fun d : Fin 7 => iprop(done P c (grS d) ∗ done P c (grR d))) (fun _ => owesE c 0) (fun d k => agRowWaitS c d (agRowWaitR c d k)) (fun p => WP c p Q)
    (fun d l k => by
      unfold agRowWaitS agRowWaitR
      exact wait2_step P K c (grS d) (grR d) rfl rfl (sem8 cc0_scratch8 d.succ) (sem8 cc0_scratch9 d.succ) rfl rfl (out6 c) rfl rfl 0 (above_zero _) (above_zero _) k Q) k

/-! ## The cells closed -/

/-- A family of cells past all its duties closes: its counters are the device's again, at zero. -/
theorem close_all {ι : Type} [Fintype ι] [DecidableEq ι] (c : Dev nD) (k : ι → Cell) (R : ℕ) (hR : ∀ i r, R ≤ r → (Rd P).duties (kc c (k i)) r = ∅) :
    iprop(env P K ∗ bigSep Finset.univ fun i => atPos ER (kc c (k i)) R ∅ 0) ⊢ (|={Set.univ}=> bigSep Finset.univ fun i => semVal (kc c (k i)) 0 : sProp 𝕄) := by
  have h : iprop(env P K ∗ bigSep Finset.univ fun i => atPos ER (kc c (k i)) R ∅ 0)
      ⊢ bigSep Finset.univ fun i => iprop(|={Set.univ}=> semVal (kc c (k i)) 0 : sProp 𝕄) := by
    refine (sep_mono_left (BI.bigSep_of_persistent (Finset.univ : Finset ι) (env P K))).trans ?_
    rw [← bigSep_sep']
    refine bigSep_mono fun i _ => ?_
    exact (sep_mono_left (env_inv P K c (k i))).trans (Rounds.cell_close ER (Rd P) (Set.mem_univ (K (c, k i))) (fun h => h) (hR i))
  exact h.trans (bigSep_fupd _ _)

/-! ## Loads and stores -/

/-- The lookup writes the device's part of the result over the whole of it. -/
def part (c : Dev nD) (x : (cc0_stg0_0 : Ref sig .tc).ty.Contents (Elt F)) (i : (cc0_stg1_0 : Ref sig .tc).ty.Contents (Elt F)) : OutC F :=
  k0_pay4 (k0_pay2 (meW c) i (tabM.view.readAt (Elt F) tabLo.toLoadRect x)) (k0_pay3 (meW c) i) (tabM.view.readAt (Elt F) tabHi.toLoadRect x)

theorem hz1 : (![0] : Fin 1 → Nat) = fun _ => 0 := funext fun a => by fin_cases a; rfl
theorem hz2 : (![0, 0] : Fin 2 → Nat) = fun _ => 0 := funext fun a => by fin_cases a <;> rfl
theorem read_idx (i : (cc0_stg1_0 : Ref sig .tc).ty.Contents (Elt F)) : idxM.view.readAt (Elt F) loIdx.toLoadRect i = i :=
  Memref.readAt_unit_zero (Elt F) cc0_stg1_0 hz1 _ i
theorem write_out (f w : (cc0_stg2_0 : Ref sig .tc).ty.Contents (Elt F)) : (outM.access outAll).write (Elt F) f w Finset.univ = w :=
  Memref.write_access_unit_zero_univ (Elt F) cc0_stg2_0 hz2 _ f w

abbrev tabPt (c : Dev nD) (x : (cc0_stg0_0 : Ref sig .tc).ty.Contents (Elt F)) : sProp 𝕄 := ((c : Thread nD τ).loc cc0_stg0_0) ↦{fullShare} x
abbrev idxPt (c : Dev nD) (i : (cc0_stg1_0 : Ref sig .tc).ty.Contents (Elt F)) : sProp 𝕄 := ((c : Thread nD τ).loc cc0_stg1_0) ↦{fullShare} i

theorem lookup_phase (c : Dev nD) (x : (cc0_stg0_0 : Ref sig .tc).ty.Contents (Elt F)) (i : (cc0_stg1_0 : Ref sig .tc).ty.Contents (Elt F)) (f : OutC F)
    (k : TProg F) (Q : PUnit → sProp 𝕄) :
    iprop(tabPt c x ∗ idxPt c i ∗ outPt c Finset.univ fullShare f)
      ⊢ iprop(((tabPt c x ∗ idxPt c i ∗ outPt c Finset.univ fullShare (part c x i)) -∗ WP c k Q) -∗ WP c (lookupOps c k) Q) := by
  unfold lookupOps outPt
  iintro ⟨Hx, Hi, Ho⟩ Hk
  iapply (wp_load 𝒱₀ (c : Thread nD τ) none Set.univ (m := idxM) (Finset.subset_univ _)) $$ Hi; iintro Hi
  rw [read_idx]
  iapply (wp_load 𝒱₀ (c : Thread nD τ) none Set.univ (m := tabM) (Finset.subset_univ _)) $$ Hx; iintro Hx
  iapply (wp_load 𝒱₀ (c : Thread nD τ) none Set.univ (m := tabM) (Finset.subset_univ _)) $$ Hx; iintro Hx
  iapply (wp_load 𝒱₀ (c : Thread nD τ) none Set.univ (m := outM) (Finset.subset_univ _)) $$ Ho; iintro Ho
  iapply (wp_store 𝒱₀ (c : Thread nD τ) none Set.univ (m := outM) (r := outAll) (Mk := Finset.univ) (Finset.subset_univ _)) $$ Ho; iintro Ho
  rw [write_out]
  iapply Hk
  isplitl [Hx]; · iexact Hx
  isplitl [Hi]; · iexact Hi
  unfold part; iexact Ho

/-! ## The sums -/

theorem access_row (c : Dev nD) : (outM.access (rect2 c)).set = SB c := (View.set_slice_whole _ _).trans (set_rect2 c)
theorem access_col (c : Dev nD) : (outM.access (rect4 c)).set = BK c := (View.set_slice_whole _ _).trans (set_rect4 c)
theorem reads_row (c : Dev nD) : outM.view.setOn (rect2 c).toLoadRect.set ⊆ SB c := by
  have h := access_row c; rw [View.set_slice] at h; exact h.le
theorem reads_col (c : Dev nD) : outM.view.setOn (rect4 c).toLoadRect.set ⊆ BK c := by
  have h := access_col c; rw [View.set_slice] at h; exact h.le
theorem writes_row (c : Dev nD) : (outM.access (rect2 c)).setOn Finset.univ ⊆ SB c := (access_row c).le
theorem writes_col (c : Dev nD) : (outM.access (rect4 c)).setOn Finset.univ ⊆ BK c := (access_col c).le

/-- The device's 128 rows summed over its group. -/
theorem sumRow_phase (c : Dev nD) (k : TProg F) (Q : PUnit → sProp 𝕄) :
    iprop(rowPt c Finset.univ (rowFull P c) ∗ outPt c (SB c) fullShare (P c))
      ⊢ iprop(((rowPt c Finset.univ (rowFull P c) ∗ outPt c (SB c) fullShare (sumRow P c)) -∗ WP c k Q) -∗ WP c (sumRowOps c k) Q) := by
  rw [← outPt_congr c (SB c) fullShare (store_row P c (P c))]
  unfold sumRowOps loadRow outPt rowPt
  iintro ⟨Hr, Ho⟩ Hk
  iapply (wp_load 𝒱₀ (c : Thread nD τ) none Set.univ (m := outM) (reads_row c)) $$ Ho; iintro Ho
  iapply (wp_load 𝒱₀ (c : Thread nD τ) none Set.univ (m := rowM) (Finset.subset_univ _)) $$ Hr; iintro Hr
  iapply (wp_load 𝒱₀ (c : Thread nD τ) none Set.univ (m := rowM) (Finset.subset_univ _)) $$ Hr; iintro Hr
  iapply (wp_load 𝒱₀ (c : Thread nD τ) none Set.univ (m := rowM) (Finset.subset_univ _)) $$ Hr; iintro Hr
  iapply (wp_load 𝒱₀ (c : Thread nD τ) none Set.univ (m := rowM) (Finset.subset_univ _)) $$ Hr; iintro Hr
  iapply (wp_load 𝒱₀ (c : Thread nD τ) none Set.univ (m := rowM) (Finset.subset_univ _)) $$ Hr; iintro Hr
  iapply (wp_load 𝒱₀ (c : Thread nD τ) none Set.univ (m := rowM) (Finset.subset_univ _)) $$ Hr; iintro Hr
  iapply (wp_load 𝒱₀ (c : Thread nD τ) none Set.univ (m := rowM) (Finset.subset_univ _)) $$ Hr; iintro Hr
  iapply (wp_load 𝒱₀ (c : Thread nD τ) none Set.univ (m := outM) (reads_row c)) $$ Ho; iintro Ho
  iapply (wp_store 𝒱₀ (c : Thread nD τ) none Set.univ (m := outM) (r := rect2 c) (Mk := Finset.univ) (writes_row c)) $$ Ho; iintro Ho
  iapply Hk
  isplitl [Hr]; · iexact Hr
  iexact Ho

/-- The device's 32 rows summed over its column. -/
theorem sumCol_phase (c : Dev nD) (k : TProg F) (Q : PUnit → sProp 𝕄) :
    iprop(colPt c Finset.univ (colFull P c) ∗ outPt c (BK c) fullShare (sumRow P c))
      ⊢ iprop(((colPt c Finset.univ (colFull P c) ∗ outPt c (BK c) fullShare (fin P)) -∗ WP c k Q) -∗ WP c (sumColOps c k) Q) := by
  rw [← outPt_congr c (BK c) fullShare (store_col P c (sumRow P c))]
  unfold sumColOps loadCol outPt colPt
  iintro ⟨Hr, Ho⟩ Hk
  iapply (wp_load 𝒱₀ (c : Thread nD τ) none Set.univ (m := outM) (reads_col c)) $$ Ho; iintro Ho
  iapply (wp_load 𝒱₀ (c : Thread nD τ) none Set.univ (m := colM) (Finset.subset_univ _)) $$ Hr; iintro Hr
  iapply (wp_load 𝒱₀ (c : Thread nD τ) none Set.univ (m := colM) (Finset.subset_univ _)) $$ Hr; iintro Hr
  iapply (wp_load 𝒱₀ (c : Thread nD τ) none Set.univ (m := colM) (Finset.subset_univ _)) $$ Hr; iintro Hr
  iapply (wp_load 𝒱₀ (c : Thread nD τ) none Set.univ (m := outM) (reads_col c)) $$ Ho; iintro Ho
  iapply (wp_store 𝒱₀ (c : Thread nD τ) none Set.univ (m := outM) (r := rect4 c) (Mk := Finset.univ) (writes_col c)) $$ Ho; iintro Ho
  iapply Hk
  isplitl [Hr]; · iexact Hr
  iexact Ho

end Cert.Lookup

end
-- ==== Proof.Body.lean ====
/-
The body of the kernel on one device, phase by phase.
-/
module

public import proofs.«01_k».proof.Proof.Phases

@[expose] public section

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → OutC F) (K : Dev nD × Cell → ℕ)

/-! ## Families -/

theorem zip {ι : Type} [Fintype ι] (A B : ι → sProp 𝕄) : (bigSep Finset.univ fun i => iprop(A i ∗ B i)) = iprop(bigSep Finset.univ A ∗ bigSep Finset.univ B) :=
  bigSep_sep' Finset.univ A B
theorem zip4 {ι : Type} [Fintype ι] (A B C E : ι → sProp 𝕄) : (bigSep Finset.univ fun i => iprop(A i ∗ B i ∗ C i ∗ E i))
    = iprop(bigSep Finset.univ A ∗ bigSep Finset.univ B ∗ bigSep Finset.univ C ∗ bigSep Finset.univ E) := by
  rw [zip, zip, zip]

theorem before_zip {ι : Type} [Fintype ι] (c : Dev nD) (k : ι → Cell) (n : ℕ) (h : ∀ i, amt (k i) = n) :
    (bigSep Finset.univ fun i => before (F := F) c (k i))
      = iprop((bigSep Finset.univ fun i => atPos ER (kc c (k i)) 0 ∅ 0) ∗ bigSep Finset.univ fun i => cred (tallyAt (kc c (k i)) () n)) := by
  rw [← zip]; exact bigSep_congr fun i _ => by unfold before; rw [h]
theorem done_zip {ι : Type} [Fintype ι] (c : Dev nD) (k : ι → Cell) :
    (bigSep Finset.univ fun i => done P c (k i))
      = iprop((bigSep Finset.univ fun i => atPos ER (kc c (k i)) 1 ∅ 0) ∗ bigSep Finset.univ fun i => pay P c (k i) one) := by
  rw [← zip]

theorem own_split (X : Own → sProp 𝕄) : bigSep Finset.univ X
    = iprop((bigSep Finset.univ fun i : Fin 8 => X (.inl i)) ∗ (bigSep Finset.univ fun d : Fin 7 => X (.inr (.inl d))) ∗ (bigSep Finset.univ fun d : Fin 7 => X (.inr (.inr (.inl d))))
      ∗ (bigSep Finset.univ fun e : Fin 3 => X (.inr (.inr (.inr (.inl e))))) ∗ (bigSep Finset.univ fun e : Fin 3 => X (.inr (.inr (.inr (.inr (.inl e))))))
      ∗ (bigSep Finset.univ fun e : Fin 3 => X (.inr (.inr (.inr (.inr (.inr (.inl e))))))) ∗ (bigSep Finset.univ fun e : Fin 3 => X (.inr (.inr (.inr (.inr (.inr (.inr (.inl e))))))))
      ∗ (bigSep Finset.univ fun d : Fin 7 => X (.inr (.inr (.inr (.inr (.inr (.inr (.inr (.inl d))))))))) ∗ (bigSep Finset.univ fun d : Fin 7 => X (.inr (.inr (.inr (.inr (.inr (.inr (.inr (.inr d)))))))))) := by
  rw [bigSep_univ_sum, bigSep_univ_sum, bigSep_univ_sum, bigSep_univ_sum, bigSep_univ_sum, bigSep_univ_sum, bigSep_univ_sum, bigSep_univ_sum]
  rfl

/-! ## What a device starts from -/

/-- Its positions at its cells. -/
def positions (c : Dev nD) : sProp 𝕄 := iprop(atPos ER (kc c bar) 0 ∅ 0 ∗ bigSep Finset.univ fun k : Own => atPos ER (kc c (.inr k)) 0 ∅ 0)
/-- The tokens of the duties it pays. -/
def payToks (c : Dev nD) : sProp 𝕄 :=
  iprop((bigSep Finset.univ fun d : Fin 7 => dutyTok ER (kc (rp c d) bar) 0 (.inl d)) ∗ (bigSep Finset.univ fun e : Fin 3 => dutyTok ER (kc (cp c e) bar) 0 (.inr e))
    ∗ (bigSep Finset.univ fun d : Fin 7 => dutyTok ER (kc c (rsS d)) 0 one) ∗ (bigSep Finset.univ fun d : Fin 7 => dutyTok ER (kc (rp c d) (rsR d)) 0 one)
    ∗ (bigSep Finset.univ fun e : Fin 3 => dutyTok ER (kc c (csS e)) 0 one) ∗ (bigSep Finset.univ fun e : Fin 3 => dutyTok ER (kc (cp c e) (csR e)) 0 one)
    ∗ (bigSep Finset.univ fun e : Fin 3 => dutyTok ER (kc c (gcS e)) 0 one) ∗ (bigSep Finset.univ fun e : Fin 3 => dutyTok ER (kc (cp c e) (gcR e)) 0 one)
    ∗ (bigSep Finset.univ fun d : Fin 7 => dutyTok ER (kc c (grS d)) 0 one) ∗ (bigSep Finset.univ fun d : Fin 7 => dutyTok ER (kc (rp c d) (grR d)) 0 one))
/-- The credit of the cells that other devices pay. -/
def credits (c : Dev nD) : sProp 𝕄 :=
  iprop(cred (tallyAt (kc c bar) () 10) ∗ (bigSep Finset.univ fun d : Fin 7 => cred (tallyAt (kc c (rsR d)) () N1)) ∗ (bigSep Finset.univ fun e : Fin 3 => cred (tallyAt (kc c (csR e)) () N2))
    ∗ (bigSep Finset.univ fun e : Fin 3 => cred (tallyAt (kc c (gcR e)) () N2)) ∗ (bigSep Finset.univ fun d : Fin 7 => cred (tallyAt (kc c (grR d)) () N1)))
/-- Its landing buffers and result, at any contents. -/
def rowFree (c : Dev nD) : sProp 𝕄 := iprop(∃ f, rowPt (F := F) c Finset.univ f)
def colFree (c : Dev nD) : sProp 𝕄 := iprop(∃ f, colPt (F := F) c Finset.univ f)
def outFree (c : Dev nD) : sProp 𝕄 := iprop(∃ f, outPt (F := F) c Finset.univ fullShare f)

/-- What it ends with. -/
def ends (c : Dev nD) : sProp 𝕄 :=
  iprop(rowFree (F := F) c ∗ colFree (F := F) c ∗ (bigSep Finset.univ fun k : Own => semVal (kc c (.inr k)) 0) ∗ semVal (kc c bar) 0 ∗ owesE (F := F) c 0
    ∗ outPt c Finset.univ fullShare (fin P))

/-- The landing buffers in slots, each for the signal that hands it over. -/
theorem rowFree_slots (c : Dev nD) : rowFree (F := F) c ⊢ bigSep Finset.univ fun d : Fin 7 => pay P (rp c d) bar (.inl d) := by
  have h : (bigSep Finset.univ fun d : Fin 7 => pay P (rp c d) bar (.inl d)) = bigSep Finset.univ fun d : Fin 7 => rowAny (F := F) c d := by
    rw [show (fun d => pay P (rp c d) bar (.inl d)) = fun d : Fin 7 => rowAny (F := F) c d.rev from funext fun d => by
      show rowAny (rm (rp c d) d) d.rev = _; rw [rm_rp]]
    exact (bigSep_rev fun d => rowAny (F := F) c d).symm
  rw [h]; unfold rowFree
  iintro ⟨%f, H⟩
  ihave H := (Entails.of_eq (row_parts c f)) $$ H
  iapply (show (bigSep Finset.univ fun d : Fin 7 => rowPt c (RS d) f) ⊢ bigSep Finset.univ fun d : Fin 7 => rowAny (F := F) c d from
    bigSep_mono fun d _ => show iprop(rowPt c (RS d) f) ⊢ rowAny (F := F) c d from by unfold rowAny; iintro H; iexists f; iexact H) $$ H
theorem colFree_slots (c : Dev nD) : colFree (F := F) c ⊢ bigSep Finset.univ fun e : Fin 3 => pay P (cp c e) bar (.inr e) := by
  have h : (bigSep Finset.univ fun e : Fin 3 => pay P (cp c e) bar (.inr e)) = bigSep Finset.univ fun e : Fin 3 => colAny (F := F) c e := by
    rw [show (fun e => pay P (cp c e) bar (.inr e)) = fun e : Fin 3 => colAny (F := F) c e.rev from funext fun e => by
      show colAny (cm (cp c e) e) e.rev = _; rw [cm_cp]]
    exact (bigSep_rev fun e => colAny (F := F) c e).symm
  rw [h]; unfold colFree
  iintro ⟨%f, H⟩
  ihave H := (Entails.of_eq (col_parts c f)) $$ H
  iapply (show (bigSep Finset.univ fun e : Fin 3 => colPt c (CS e) f) ⊢ bigSep Finset.univ fun e : Fin 3 => colAny (F := F) c e from
    bigSep_mono fun e _ => show iprop(colPt c (CS e) f) ⊢ colAny (F := F) c e from by unfold colAny; iintro H; iexists f; iexact H) $$ H

/-- The row exchange's arrivals: the landing buffer full, and the rows of the other results to write to. -/
theorem rsR_done (c : Dev nD) : (bigSep Finset.univ fun d : Fin 7 => done P c (rsR d))
    ⊢ iprop((bigSep Finset.univ fun d : Fin 7 => atPos ER (kc c (rsR d)) 1 ∅ 0) ∗ rowPt c Finset.univ (rowFull P c) ∗ bigSep Finset.univ fun d : Fin 7 => outAny (F := F) (rp c d) (SB c)) := by
  have e : (bigSep Finset.univ fun d : Fin 7 => outAny (F := F) (rp c d) (SB c)) = bigSep Finset.univ fun d : Fin 7 => outAny (F := F) (rm c d) (SB c) := by
    rw [show (bigSep Finset.univ fun d : Fin 7 => outAny (F := F) (rm c d) (SB c)) = _ from bigSep_rev _]
    exact bigSep_congr fun d _ => by rw [rm_rev]
  rw [e, row_parts, ← zip, done_zip P c fun d => rsR d]
  exact .rfl
theorem csR_done (c : Dev nD) : (bigSep Finset.univ fun e : Fin 3 => done P c (csR e))
    ⊢ iprop((bigSep Finset.univ fun e : Fin 3 => atPos ER (kc c (csR e)) 1 ∅ 0) ∗ colPt c Finset.univ (colFull P c) ∗ bigSep Finset.univ fun e : Fin 3 => outAny (F := F) (cp c e) (BK c)) := by
  have e : (bigSep Finset.univ fun e : Fin 3 => outAny (F := F) (cp c e) (BK c)) = bigSep Finset.univ fun e : Fin 3 => outAny (F := F) (cm c e) (BK c) := by
    rw [show (bigSep Finset.univ fun e : Fin 3 => outAny (F := F) (cm c e) (BK c)) = _ from bigSep_rev _]
    exact bigSep_congr fun d _ => by rw [cm_rev]
  rw [e, col_parts, ← zip, done_zip P c fun e => csR e]
  exact .rfl
/-- The column gather's: the device's 128 rows finished. -/
theorem gc_done (c : Dev nD) : (bigSep Finset.univ fun e : Fin 3 => iprop(done P c (gcS e) ∗ done P c (gcR e)))
    ⊢ iprop((bigSep Finset.univ fun e : Fin 3 => atPos ER (kc c (gcS e)) 1 ∅ 0) ∗ (bigSep Finset.univ fun e : Fin 3 => atPos ER (kc c (gcR e)) 1 ∅ 0) ∗ outPt c (SB c) fullShare (fin P)) := by
  rw [sb_parts', lend3 c (BK c), zip, done_zip P c fun e => gcS e, done_zip P c fun e => gcR e]
  iintro ⟨⟨H1, H2⟩, ⟨H3, H4⟩⟩
  isplitl [H1]; · iexact H1
  isplitl [H3]; · iexact H3
  isplitl [H2]; · iexact H2
  iexact H4
/-- The row gather's: the whole result finished. -/
theorem gr_done (c : Dev nD) : (bigSep Finset.univ fun d : Fin 7 => iprop(done P c (grS d) ∗ done P c (grR d)))
    ⊢ iprop((bigSep Finset.univ fun d : Fin 7 => atPos ER (kc c (grS d)) 1 ∅ 0) ∗ (bigSep Finset.univ fun d : Fin 7 => atPos ER (kc c (grR d)) 1 ∅ 0) ∗ outPt c Finset.univ fullShare (fin P)) := by
  rw [out_parts', lend7 c (SB c), zip, done_zip P c fun d => grS d, done_zip P c fun d => grR d]
  iintro ⟨⟨H1, H2⟩, ⟨H3, H4⟩⟩
  isplitl [H1]; · iexact H1
  isplitl [H3]; · iexact H3
  isplitl [H2]; · iexact H2
  iexact H4
theorem rsS_done (c : Dev nD) : (bigSep Finset.univ fun d : Fin 7 => done P c (rsS d)) ⊢ bigSep Finset.univ fun d : Fin 7 => atPos ER (kc c (rsS d)) 1 ∅ 0 :=
  (Entails.of_eq (done_zip P c fun d => rsS d)).trans (Laws.sep_and.trans and_elimL)
theorem csS_done (c : Dev nD) : (bigSep Finset.univ fun e : Fin 3 => done P c (csS e)) ⊢ bigSep Finset.univ fun e : Fin 3 => atPos ER (kc c (csS e)) 1 ∅ 0 :=
  (Entails.of_eq (done_zip P c fun e => csS e)).trans (Laws.sep_and.trans and_elimL)

/-- All cells of the device closed. -/
theorem close_cells (c : Dev nD) :
    iprop(env P K ∗ atPos ER (kc c bar) 1 ∅ 0 ∗ (bigSep Finset.univ fun i : Fin 8 => atPos ER (kc c (idle i)) 0 ∅ 0)
        ∗ (bigSep Finset.univ fun d : Fin 7 => atPos ER (kc c (rsS d)) 1 ∅ 0) ∗ (bigSep Finset.univ fun d : Fin 7 => atPos ER (kc c (rsR d)) 1 ∅ 0)
        ∗ (bigSep Finset.univ fun e : Fin 3 => atPos ER (kc c (csS e)) 1 ∅ 0) ∗ (bigSep Finset.univ fun e : Fin 3 => atPos ER (kc c (csR e)) 1 ∅ 0)
        ∗ (bigSep Finset.univ fun e : Fin 3 => atPos ER (kc c (gcS e)) 1 ∅ 0) ∗ (bigSep Finset.univ fun e : Fin 3 => atPos ER (kc c (gcR e)) 1 ∅ 0)
        ∗ (bigSep Finset.univ fun d : Fin 7 => atPos ER (kc c (grS d)) 1 ∅ 0) ∗ (bigSep Finset.univ fun d : Fin 7 => atPos ER (kc c (grR d)) 1 ∅ 0))
      ⊢ (|={Set.univ}=> iprop((bigSep Finset.univ fun k : Own => semVal (kc c (.inr k)) 0) ∗ semVal (kc c bar) 0) : sProp 𝕄) := by
  rw [own_split fun k : Own => semVal (kc c (.inr k)) 0]
  iintro ⟨#HI, HB, H0, H1, H2, H3, H4, H5, H6, H7, H8⟩
  imod (Rounds.cell_close ER (Rd P) (Set.mem_univ (K (c, bar))) (fun h => h) (R := 1) (Rd_later P (kc c bar))) $$ [HB] with HB
  · isplitr; · iapply (env_inv P K c bar); iexact HI
    iexact HB
  imod (close_all P K c (fun i : Fin 8 => idle i) 0 (fun i => Rd_idle P c i)) $$ [H0] with H0
  · isplitr; · iexact HI
    iexact H0
  imod (close_all P K c (fun d : Fin 7 => rsS d) 1 (fun i => Rd_later P _)) $$ [H1] with H1
  · isplitr; · iexact HI
    iexact H1
  imod (close_all P K c (fun d : Fin 7 => rsR d) 1 (fun i => Rd_later P _)) $$ [H2] with H2
  · isplitr; · iexact HI
    iexact H2
  imod (close_all P K c (fun e : Fin 3 => csS e) 1 (fun i => Rd_later P _)) $$ [H3] with H3
  · isplitr; · iexact HI
    iexact H3
  imod (close_all P K c (fun e : Fin 3 => csR e) 1 (fun i => Rd_later P _)) $$ [H4] with H4
  · isplitr; · iexact HI
    iexact H4
  imod (close_all P K c (fun e : Fin 3 => gcS e) 1 (fun i => Rd_later P _)) $$ [H5] with H5
  · isplitr; · iexact HI
    iexact H5
  imod (close_all P K c (fun e : Fin 3 => gcR e) 1 (fun i => Rd_later P _)) $$ [H6] with H6
  · isplitr; · iexact HI
    iexact H6
  imod (close_all P K c (fun d : Fin 7 => grS d) 1 (fun i => Rd_later P _)) $$ [H7] with H7
  · isplitr; · iexact HI
    iexact H7
  imod (close_all P K c (fun d : Fin 7 => grR d) 1 (fun i => Rd_later P _)) $$ [H8] with H8
  · isplitr; · iexact HI
    iexact H8
  imodintro
  isplitr [HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7] <;> iassumption
  iexact HB

set_option maxHeartbeats 800000 in
/-- The body: from its part of the table and the indices to the whole result. -/
theorem flat_wp (c : Dev nD) (x : (cc0_stg0_0 : Ref sig .tc).ty.Contents (Elt F)) (i : (cc0_stg1_0 : Ref sig .tc).ty.Contents (Elt F)) (hP : part c x i = P c)
    (Q : PUnit → sProp 𝕄) :
    iprop(env P K ∗ positions (F := F) c ∗ payToks (F := F) c ∗ credits (F := F) c ∗ owesE (F := F) c (O₀ c) ∗ rowFree (F := F) c ∗ colFree (F := F) c
        ∗ tabPt c x ∗ idxPt c i ∗ outFree (F := F) c ∗ ((ends P c ∗ tabPt c x ∗ idxPt c i) -∗ Q ⟨⟩))
      ⊢ WP c (flat c) Q := by
  unfold positions payToks credits outFree flat
  rw [own_split fun k : Own => atPos ER (kc c (.inr k)) 0 ∅ 0]
  iintro ⟨#HI, ⟨HaB, Ha0, HaRS, HaRR, HaCS, HaCR, HaGS, HaGR, HaHS, HaHR⟩, ⟨HtB1, HtB2, HtRS, HtRR, HtCS, HtCR, HtGS, HtGR, HtHS, HtHR⟩,
    ⟨HcB, HcRR, HcCR, HcGR, HcHR⟩, HO, Hrow, Hcol, Hx, Hi, ⟨%f, Hout⟩, Hk⟩
  -- the signals
  ihave Hrow := (rowFree_slots P c) $$ Hrow
  ihave Hcol := (colFree_slots P c) $$ Hcol
  iapply (sigRow_phase P K c _ Q) $$ [HtB1 Hrow HO]
  · isplitr; · iexact HI
    isplitr [HO]
    · rw [zip]; isplitl [HtB1] <;> iassumption
    iexact HO
  iintro ⟨-, HO⟩
  iapply (sigCol_phase P K c _ Q) $$ [HtB2 Hcol HO]
  · isplitr; · iexact HI
    isplitr [HO]
    · rw [zip]; isplitl [HtB2] <;> iassumption
    iexact HO
  iintro ⟨-, HO⟩
  -- the lookup
  iapply (lookup_phase c x i f _ Q) $$ [Hx Hi Hout]
  · isplitl [Hx]; · iexact Hx
    isplitl [Hi] <;> iassumption
  iintro ⟨Hx, Hi, Hout⟩
  rw [hP]
  -- the barrier
  iapply (bar_step P K c _ Q) $$ [HaB HcB HO]
  · isplitr; · iexact HI
    isplitl [HaB]; · iexact HaB
    isplitl [HcB] <;> iassumption
  iintro ⟨HaB, HrowN, HcolN, HO⟩
  -- the row exchange
  ihave Hout := (Entails.of_eq (out_parts c fullShare (P c))) $$ Hout
  icases Hout with ⟨Hout, Hsrc⟩
  iapply (rsRow_phase P K c _ Q) $$ [HtRS HtRR Hsrc HrowN HO]
  · isplitr; · iexact HI
    isplitr [HO]
    · rw [zip4]
      isplitl [HtRS]; · iexact HtRS
      isplitl [HtRR]; · iexact HtRR
      isplitl [Hsrc] <;> iassumption
    iexact HO
  iintro ⟨HcRS, HO⟩
  iapply (rsRowWait_phase P K c _ Q) $$ [HaRR HcRR HO]
  · isplitr; · iexact HI
    isplitr [HO]
    · rw [before_zip c (fun d => rsR d) N1 fun _ => rfl]; isplitl [HaRR] <;> iassumption
    iexact HO
  iintro ⟨Hd, HO⟩
  ihave Hd := (rsR_done P c) $$ Hd
  icases Hd with ⟨HaRR, Hrow, HoutN⟩
  iapply (sumRow_phase P c _ Q) $$ [Hrow Hout]
  · isplitl [Hrow] <;> iassumption
  iintro ⟨Hrow, Hout⟩
  -- the column exchange
  ihave Hout := (Entails.of_eq (sb_parts c fullShare (sumRow P c))) $$ Hout
  icases Hout with ⟨Hout, Hsrc⟩
  iapply (rsCol_phase P K c _ Q) $$ [HtCS HtCR Hsrc HcolN HO]
  · isplitr; · iexact HI
    isplitr [HO]
    · rw [zip4]
      isplitl [HtCS]; · iexact HtCS
      isplitl [HtCR]; · iexact HtCR
      isplitl [Hsrc] <;> iassumption
    iexact HO
  iintro ⟨HcCS, HO⟩
  iapply (rsColWait_phase P K c _ Q) $$ [HaCR HcCR HO]
  · isplitr; · iexact HI
    isplitr [HO]
    · rw [before_zip c (fun e => csR e) N2 fun _ => rfl]; isplitl [HaCR] <;> iassumption
    iexact HO
  iintro ⟨Hd, HO⟩
  ihave Hd := (csR_done P c) $$ Hd
  icases Hd with ⟨HaCR, Hcol, HoutC⟩
  iapply (sumCol_phase P c _ Q) $$ [Hcol Hout]
  · isplitl [Hcol] <;> iassumption
  iintro ⟨Hcol, Hout⟩
  -- the column gather
  ihave Hsrc := (Entails.of_eq (lend3 c (BK c) (fin P))) $$ Hout
  iapply (agCol_phase P K c _ Q) $$ [HtGS HtGR Hsrc HoutC HO]
  · isplitr; · iexact HI
    isplitr [HO]
    · rw [zip4]
      isplitl [HtGS]; · iexact HtGS
      isplitl [HtGR]; · iexact HtGR
      isplitl [Hsrc] <;> iassumption
    iexact HO
  iintro ⟨HcGS, HO⟩
  iapply (agColWait_phase P K c _ Q) $$ [HaGS HcGS HaGR HcGR HO]
  · isplitr; · iexact HI
    isplitr [HO]
    · rw [zip, before_zip c (fun e => gcS e) N2 fun _ => rfl, before_zip c (fun e => gcR e) N2 fun _ => rfl]
      isplitl [HaGS HcGS]
      · isplitl [HaGS] <;> iassumption
      isplitl [HaGR] <;> iassumption
    iexact HO
  iintro ⟨Hd, HO⟩
  ihave Hd := (gc_done P c) $$ Hd
  icases Hd with ⟨HaGS, HaGR, Hout⟩
  -- the row gather
  ihave Hsrc := (Entails.of_eq (lend7 c (SB c) (fin P))) $$ Hout
  iapply (agRow_phase P K c _ Q) $$ [HtHS HtHR Hsrc HoutN HO]
  · isplitr; · iexact HI
    isplitr [HO]
    · rw [zip4]
      isplitl [HtHS]; · iexact HtHS
      isplitl [HtHR]; · iexact HtHR
      isplitl [Hsrc] <;> iassumption
    iexact HO
  iintro ⟨HcHS, HO⟩
  -- the departures of the two exchanges
  iapply (rsRowWaitS_phase P K c _ Q) $$ [HaRS HcRS HO]
  · isplitr; · iexact HI
    isplitr [HO]
    · rw [before_zip c (fun d => rsS d) N1 fun _ => rfl]; isplitl [HaRS] <;> iassumption
    iexact HO
  iintro ⟨Hd, HO⟩
  ihave HaRS := (rsS_done P c) $$ Hd
  iapply (rsColWaitS_phase P K c _ Q) $$ [HaCS HcCS HO]
  · isplitr; · iexact HI
    isplitr [HO]
    · rw [before_zip c (fun e => csS e) N2 fun _ => rfl]; isplitl [HaCS] <;> iassumption
    iexact HO
  iintro ⟨Hd, HO⟩
  ihave HaCS := (csS_done P c) $$ Hd
  -- the row gather's waits
  iapply (agRowWait_phase P K c _ Q) $$ [HaHS HcHS HaHR HcHR HO]
  · isplitr; · iexact HI
    isplitr [HO]
    · rw [zip, before_zip c (fun d => grS d) N1 fun _ => rfl, before_zip c (fun d => grR d) N1 fun _ => rfl]
      isplitl [HaHS HcHS]
      · isplitl [HaHS] <;> iassumption
      isplitl [HaHR] <;> iassumption
    iexact HO
  iintro ⟨Hd, HO⟩
  ihave Hd := (gr_done P c) $$ Hd
  icases Hd with ⟨HaHS, HaHR, Hout⟩
  -- the end
  imod (close_cells P K c) $$ [HaB Ha0 HaRS HaRR HaCS HaCR HaGS HaGR HaHS HaHR] with Hz
  · isplitr; · iexact HI
    isplitl [HaB]; · iexact HaB
    isplitl [Ha0]; · iexact Ha0
    isplitl [HaRS]; · iexact HaRS
    isplitl [HaRR]; · iexact HaRR
    isplitl [HaCS]; · iexact HaCS
    isplitl [HaCR]; · iexact HaCR
    isplitl [HaGS]; · iexact HaGS
    isplitl [HaGR]; · iexact HaGR
    isplitl [HaHS] <;> iassumption
  icases Hz with ⟨Hz, HzB⟩
  rw [wp_ret]; imodintro
  iapply Hk
  isplitr [Hx Hi]
  · unfold ends rowFree colFree
    isplitl [Hrow]; · iexists _; iexact Hrow
    isplitl [Hcol]; · iexists _; iexact Hcol
    isplitl [Hz]; · iexact Hz
    isplitl [HzB]; · iexact HzB
    isplitl [HO] <;> iassumption
  isplitl [Hx] <;> iassumption

end Cert.Lookup

end
-- ==== Proof.Deal.lean ====
/-
What the launch deals each device: the tokens of the duties it pays, and the credit of its own cells.
-/
module

public import proofs.«01_k».proof.Proof.Body

@[expose] public section

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The duty tokens -/

/-- The duties of a device's cells: the ten of its barrier, and one for each of the others it uses. -/
abbrev Tok : Type := D ⊕ (Fin 7 ⊕ Fin 7 ⊕ Fin 3 ⊕ Fin 3 ⊕ Fin 3 ⊕ Fin 3 ⊕ Fin 7 ⊕ Fin 7)
/-- The token of a duty, as minted at its cell. -/
abbrev tokOf (cj : Dev nD × Tok) : GSem nD τ sig × ℕ × D := match cj.2 with
  | .inl δ => (kc cj.1 bar, 0, δ)
  | .inr k => (kc cj.1 (.inr (.inr k)), 0, one)
theorem tokOf_inj : Function.Injective tokOf := by
  rintro ⟨c, j⟩ ⟨c', j'⟩ h
  have hg := congrArg (fun x : GSem nD τ sig × ℕ × D => x.1) h
  have hd := congrArg (fun x : GSem nD τ sig × ℕ × D => x.2.2) h
  rcases j with δ | k <;> rcases j' with δ' | k'
  · have h1 : (c, bar) = (c', bar) := kc_inj hg
    have h2 : δ = δ' := hd
    rw [h2, (Prod.mk.inj h1).1]
  · have h1 : (c, bar) = (c', (.inr (.inr k') : Cell)) := kc_inj hg
    cases h1
  · have h1 : (c, (.inr (.inr k) : Cell)) = (c', bar) := kc_inj hg
    cases h1
  · have h1 : (c, (.inr (.inr k) : Cell)) = (c', (.inr (.inr k') : Cell)) := kc_inj hg
    cases h1; rfl

def allCells : Finset (GSem nD τ sig) := Finset.univ.map ⟨fun ck : Dev nD × Cell => kc ck.1 ck.2, kc_inj⟩
def allToks : Finset (GSem nD τ sig × ℕ × D) := Finset.univ.map ⟨tokOf, tokOf_inj⟩

/-- The tokens of device `c`'s own cells. -/
def toks (c : Dev nD) : sProp 𝕄 := bigSep Finset.univ fun j : Tok => dutyTok ER (tokOf (c, j)).1 (tokOf (c, j)).2.1 (tokOf (c, j)).2.2

theorem toks_eq (c : Dev nD) : toks (F := F) c
    = iprop(((bigSep Finset.univ fun d : Fin 7 => dutyTok ER (kc c bar) 0 (.inl d)) ∗ (bigSep Finset.univ fun e : Fin 3 => dutyTok ER (kc c bar) 0 (.inr e)))
      ∗ (bigSep Finset.univ fun d : Fin 7 => dutyTok ER (kc c (rsS d)) 0 one) ∗ (bigSep Finset.univ fun d : Fin 7 => dutyTok ER (kc c (rsR d)) 0 one)
      ∗ (bigSep Finset.univ fun e : Fin 3 => dutyTok ER (kc c (csS e)) 0 one) ∗ (bigSep Finset.univ fun e : Fin 3 => dutyTok ER (kc c (csR e)) 0 one)
      ∗ (bigSep Finset.univ fun e : Fin 3 => dutyTok ER (kc c (gcS e)) 0 one) ∗ (bigSep Finset.univ fun e : Fin 3 => dutyTok ER (kc c (gcR e)) 0 one)
      ∗ (bigSep Finset.univ fun d : Fin 7 => dutyTok ER (kc c (grS d)) 0 one) ∗ (bigSep Finset.univ fun d : Fin 7 => dutyTok ER (kc c (grR d)) 0 one)) := by
  unfold toks
  rw [bigSep_univ_sum, bigSep_univ_sum, bigSep_univ_sum, bigSep_univ_sum, bigSep_univ_sum, bigSep_univ_sum, bigSep_univ_sum, bigSep_univ_sum, bigSep_univ_sum]
  rfl

/-- What is held for each device and send, dealt to the other end of the send. -/
theorem around {ι : Type} [Fintype ι] [DecidableEq ι] (turn : ι → Dev nD ≃ Dev nD) (X : Dev nD → ι → sProp 𝕄) :
    (bigSep Finset.univ fun c : Dev nD => bigSep Finset.univ fun i : ι => X c i)
      = bigSep Finset.univ fun c : Dev nD => bigSep Finset.univ fun i : ι => X (turn i c) i := by
  let e : Dev nD × ι ≃ Dev nD × ι := ⟨fun p => (turn p.2 p.1, p.2), fun p => ((turn p.2).symm p.1, p.2),
    fun p => by simp, fun p => by simp⟩
  have h1 := bigSep_univ_prod fun p : Dev nD × ι => X p.1 p.2
  have h2 := bigSep_univ_prod fun p : Dev nD × ι => X (turn p.2 p.1) p.2
  exact h1.symm.trans ((bigSep_univ_equiv e fun p : Dev nD × ι => X p.1 p.2).trans h2)

/-- The tokens dealt to the devices that pay with them. -/
theorem toks_around : (bigSep Finset.univ fun c : Dev nD => toks (F := F) c) ⊢ bigSep Finset.univ fun c : Dev nD => payToks (F := F) c := by
  rw [bigSep_congr fun (c : Dev nD) _ => toks_eq (F := F) c]
  unfold payToks
  simp only [zip]
  rw [around rowTurn fun c d => dutyTok ER (kc c bar) 0 (.inl d), around colTurn fun c e => dutyTok ER (kc c bar) 0 (.inr e),
    around rowTurn fun c d => dutyTok ER (kc c (rsR d)) 0 one, around colTurn fun c e => dutyTok ER (kc c (csR e)) 0 one,
    around colTurn fun c e => dutyTok ER (kc c (gcR e)) 0 one, around rowTurn fun c d => dutyTok ER (kc c (grR d)) 0 one]
  iintro ⟨⟨H1, H2⟩, H3⟩
  isplitl [H1]; · iexact H1
  isplitl [H2]; · iexact H2
  iexact H3

/-! ## The launch credit -/

set_option synthInstance.maxHeartbeats 400000 in
set_option synthInstance.maxSize 1000 in
instance : DecidableEq Own := inferInstance
instance : DecidableEq Cell := instDecidableEqSum

/-- What one device owes it through one send. -/
theorem owl_one {ι : Type} (turn : ι → Dev nD ≃ Dev nD) (k : ι → Cell) (n : ℕ) (c : Dev nD) (k₀ : Cell) (i : ι) (d : Dev nD) :
    (tallyAt (kc (turn i d) (k i)) () n : CellTallies nD τ sig Unit) (kc c k₀) () = if d = (turn i).symm c then (if k₀ = k i then n else 0) else 0 := by
  by_cases h : d = (turn i).symm c ∧ k₀ = k i
  · rw [if_pos h.1, if_pos h.2, h.1, h.2, Equiv.apply_symm_apply]
    rw [tallyAt_apply]; exact if_pos ⟨rfl, rfl⟩
  · have hne : kc c k₀ ≠ kc (turn i d) (k i) := fun e => h (by
      have e' : (c, k₀) = (turn i d, k i) := kc_inj e
      obtain ⟨e1, e2⟩ := Prod.mk.inj e'
      exact ⟨by rw [e1, Equiv.symm_apply_apply], e2⟩)
    rw [tallyAt_ne_cell hne, Finsupp.zero_apply]
    by_cases h1 : d = (turn i).symm c
    · rw [if_pos h1, if_neg fun h2 => h ⟨h1, h2⟩]
    · rw [if_neg h1]
/-- What all devices owe cell `k₀` of device `c` through one family of sends. -/
theorem owl_total {ι : Type} (turn : ι → Dev nD ≃ Dev nD) (k : ι → Cell) (n : ℕ) (c : Dev nD) (k₀ : Cell) (l : List ι) :
    (∑ d : Dev nD, owl l (fun i => turn i d) k n (kc c k₀) ()) = (l.map fun i => if k₀ = k i then n else 0).sum := by
  induction l with
  | nil => exact Finset.sum_eq_zero fun _ _ => rfl
  | cons i l ih =>
    rw [List.map_cons, List.sum_cons, ← ih]
    have h (d : Dev nD) : owl (i :: l) (fun i => turn i d) k n (kc c k₀) ()
        = (if d = (turn i).symm c then (if k₀ = k i then n else 0) else 0) + owl l (fun i => turn i d) k n (kc c k₀) () := by
      rw [← owl_one turn k n c k₀ i d]
      unfold owl
      rw [List.map_cons, List.sum_cons, Pi.add_apply, Finsupp.add_apply]
    rw [Finset.sum_congr rfl fun d _ => h d, Finset.sum_add_distrib, Finset.sum_ite_eq' Finset.univ, if_pos (Finset.mem_univ _)]

/-- What all devices owe a cell. -/
theorem owed_total (c : Dev nD) (k₀ : Cell) : (∑ d : Dev nD, O₀ d (kc c k₀) ())
    = (0 + (seven.map fun i => if k₀ = grR i then N1 else 0).sum + (three.map fun i => if k₀ = gcR i then N2 else 0).sum
      + (three.map fun i => if k₀ = csR i then N2 else 0).sum + (seven.map fun i => if k₀ = rsR i then N1 else 0).sum
      + (three.map fun _ => if k₀ = bar then 1 else 0).sum + (seven.map fun _ => if k₀ = bar then 1 else 0).sum) := by
  rw [← owl_total rowTurn grR N1 c, ← owl_total colTurn gcR N2 c, ← owl_total colTurn csR N2 c, ← owl_total rowTurn rsR N1 c,
    ← owl_total colTurn (fun _ => bar) 1 c, ← owl_total rowTurn (fun _ => bar) 1 c, zero_add]
  simp only [← Finset.sum_add_distrib]
  refine Finset.sum_congr rfl fun d _ => ?_
  unfold O₀ O1 O2 O3 O4 O5
  rw [zero_add]
  rfl

/-- The same, cell by cell. -/
def due : Cell → ℕ
  | bar => 10 | rsR _ => N1 | csR _ => N2 | gcR _ => N2 | grR _ => N1
  | _ => 0
theorem owed_due (c : Dev nD) (k₀ : Cell) : (∑ d : Dev nD, O₀ d (kc c k₀) ()) = due k₀ := by
  rw [owed_total]
  generalize hn1 : N1 = n1
  generalize hn2 : N2 = n2
  unfold due
  rw [hn1, hn2]
  rcases k₀ with _ | _ | d | d | e | e | e | e | d | d
  · rfl
  · simp [seven, three]
  · simp [seven, three]
  · fin_cases d <;> simp [seven, three]
  · simp [seven, three]
  · fin_cases e <;> simp [seven, three]
  · simp [seven, three]
  · fin_cases e <;> simp [seven, three]
  · simp [seven, three]
  · fin_cases d <;> simp [seven, three]

theorem launch_cell (c : Dev nD) (k : Cell) :
    tallyOn (kc c k) (launchCredit (Pipeline.owing O₀) 0 (kc c k)) = (tallyAt (kc c k) () (due k) : CellTallies nD τ sig Unit) := by
  unfold tallyAt; refine congrArg _ (Finsupp.ext fun u => ?_); cases u
  rw [Pipeline.launchCredit_owing, Finsupp.single_eq_same, owed_due]

theorem creds (c : Dev nD) : (Pipeline.launchCred O₀ c : sProp 𝕄) ⊢ credits (F := F) c := by
  have h : (Pipeline.launchCred O₀ c : sProp 𝕄) ⊢ bigSep Finset.univ fun k : Cell => cred (tallyAt (kc c k) () (due k)) := by
    unfold Pipeline.launchCred
    refine (bigSep_subset (Finset.subset_univ (Finset.univ.map ⟨csem, csem_inj⟩))).trans ?_
    rw [bigSep_map]
    exact bigSep_mono fun k _ => show (cred (tallyOn (kc c k) (launchCredit (Pipeline.owing O₀) 0 (kc c k))) : sProp 𝕄) ⊢ _ from Entails.of_eq (congrArg cred (launch_cell c k))
  refine h.trans ?_
  rw [show (bigSep Finset.univ fun k : Cell => (cred (tallyAt (kc c k) () (due k)) : sProp 𝕄))
      = iprop((bigSep Finset.univ fun u : Unit => cred (tallyAt (kc c (.inl u)) () (due (.inl u)))) ∗ bigSep Finset.univ fun k : Own => cred (tallyAt (kc c (.inr k)) () (due (.inr k))))
    from bigSep_univ_sum _, own_split]
  unfold credits
  iintro ⟨H0, -, -, H1, -, H2, -, H3, -, H4⟩
  isplitl [H0]
  · iapply (show (bigSep Finset.univ fun u : Unit => cred (tallyAt (kc c (.inl u)) () (due (.inl u)))) ⊢ (cred (tallyAt (kc c bar) () 10) : sProp 𝕄) from
      bigSep_elim (Finset.mem_univ ())) $$ H0
  isplitl [H1]; · iexact H1
  isplitl [H2]; · iexact H2
  isplitl [H3]; · iexact H3
  iexact H4

end Cert.Lookup

end
-- ==== Proof.Launch.lean ====
/-
The launch: the body obligation, the cells allocated for all devices at once, and the run of the whole program.
-/
module

public import proofs.«01_k».proof.Proof.Deal
public import Idealize.ShloMosaic.Lib.Pipeline.CollectiveSegs
public import proofs.«01_k».proof.Proof.Gen.KernelIdeal.Points

@[expose] public section

noncomputable section

namespace Cert.Lookup

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The proof data -/

def s₀ : MemSt nD τ sig (Elt F) := ⟨m, fun _ => 0, ρ⟩

/-- Device `c`'s block of the table and its copy of the indices, as staged. -/
def xstg (c : Dev nD) : (cc0_stg0_0 : Ref sig .tc).ty.Contents (Elt F) := (win0_0.blk t0_0).view.read (Elt F) (m ((c : Thread nD τ).loc main_arg0))
def istg (c : Dev nD) : (cc0_stg1_0 : Ref sig .tc).ty.Contents (Elt F) := (win0_1.blk t0_0).view.read (Elt F) (m ((c : Thread nD τ).loc main_arg1))
/-- What each device looks up in its block. -/
def parts (c : Dev nD) : OutC F := part c (xstg m c) (istg m c)

/-- What a device's body starts from: the cells' records at some names, its positions, tokens and credit; then its landing buffers. -/
def start (c : Dev nD) : sProp 𝕄 :=
  iprop((∃ K, records (parts m) K ∗ positions (F := F) c ∗ payToks (F := F) c) ∗ credits (F := F) c ∗ levAts L lv)
def Φ₀ (c : Dev nD) : sProp 𝕄 := iprop(start m c ∗ rowFree (F := F) c ∗ colFree (F := F) c)
/-- What it leaves. -/
def Φ₁ (c : Dev nD) : sProp 𝕄 :=
  iprop((rowFree (F := F) c ∗ colFree (F := F) c) ∗ (bigSep Finset.univ fun k : Own => semVal (kc c (.inr k)) 0) ∗ semVal (kc c bar) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => istg m c
    | ⟨2, _⟩ => fin (parts m)
  Φ t := match t with
    | ⟨0, _⟩ => Φ₀ m c
    | ⟨_ + 1, _⟩ => Φ₁ c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body obligation -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

abbrev tp : Fin cfg0.N := t0_0

def bodyPre (c : Dev nD) : sProp 𝕄 :=
  iprop(Φ₀ m c ∗ (dats m ρ 0 c).owesAt () tp.castSucc
    ∗ (∃ d, stg c cc0_stg0_0 ((dats m ρ 0 c).before (0 : Fin 3) tp d))
    ∗ (∃ d, stg c cc0_stg1_0 ((dats m ρ 0 c).before (1 : Fin 3) tp d))
    ∗ (∃ d, stg c cc0_stg2_0 ((dats m ρ 0 c).before (2 : Fin 3) tp d)))
def bodyPost (c : Dev nD) : sProp 𝕄 :=
  iprop(Φ₁ (F := F) c ∗ (dats m ρ 0 c).owesAt () tp.succ ∗ stg c cc0_stg0_0 (xstg m c) ∗ stg c cc0_stg1_0 (istg m c) ∗ stg c cc0_stg2_0 (fin (parts m)))

theorem body_sound (c : Dev nD) : bodyPre m ρ c ⊢ wp frame (wpE (defs₀ (F := F)) 𝒱₀ (c : Thread nD τ) none) Set.univ
    (cc0_body tabM (Memref.isWhole_whole _) idxM (Memref.isWhole_whole _) outM (Memref.isWhole_whole _) rowM (Memref.isWhole_whole _) colM (Memref.isWhole_whole _)
      cc0_scratch2 cc0_scratch3 cc0_scratch4 cc0_scratch5 cc0_scratch6 cc0_scratch7 cc0_scratch8 cc0_scratch9) (fun _ => bodyPost m ρ c) := by
  rw [body_flat, wp_deviceId]
  unfold bodyPre Φ₀ start
  iintro ⟨⟨⟨⟨%K, HI, Hat, Htok⟩, Hcr, Hlev⟩, Hrow, Hcol⟩, Ho, ⟨%d0, %g0, %hg0, Hx⟩, ⟨%d1, %g1, %hg1, Hi⟩, ⟨%d2, %g2, %hg2, Hout⟩⟩
  have hx : g0 = xstg m c := by rw [hg0]; unfold Dat.before; rw [if_pos (fetch0_0 tp)]; rfl
  have hi : g1 = istg m c := by rw [hg1]; unfold Dat.before; rw [if_pos (fetch0_1 tp)]; rfl
  subst hx hi
  unfold Dat.owesAt Pipeline.owesWithin
  icases Ho with ⟨%W, %hW, HO⟩
  rw [show (dats m ρ 0 c).owed tp.castSucc = O₀ c from rfl]
  iapply (flat_wp (parts m) K c (xstg m c) (istg m c) rfl fun _ => bodyPost m ρ c)
  isplitl [HI Hlev]
  · unfold env; isplitl [HI] <;> iassumption
  isplitl [Hat]; · iexact Hat
  isplitl [Htok]; · iexact Htok
  isplitl [Hcr]; · iexact Hcr
  isplitl [HO]; · unfold owesE; iexists W; iexact HO
  isplitl [Hrow]; · iexact Hrow
  isplitl [Hcol]; · iexact Hcol
  isplitl [Hx]; · iexact Hx
  isplitl [Hi]; · iexact Hi
  isplitl [Hout]
  · unfold outFree outPt; iexists g2; iexact Hout
  unfold ends owesE bodyPost Φ₁ Dat.owesAt Pipeline.owesWithin outPt
  iintro ⟨⟨Hrow, Hcol, Hz, HzB, ⟨%W', HO⟩, Hout⟩, Hx, Hi⟩
  rw [show (dats m ρ 0 c).owed tp.succ = 0 from rfl]
  isplitl [Hrow Hcol Hz HzB]
  · isplitl [Hrow Hcol]
    · isplitl [Hrow] <;> iassumption
    isplitl [Hz] <;> iassumption
  isplitl [HO]
  · iexists W'
    isplitr; · ipureintro; exact fun _ _ => Or.inl trivial
    iexact HO
  isplitl [Hx]
  · iexists _; isplitr; · (ipureintro; rfl)
    iexact Hx
  isplitl [Hi]
  · iexists _; isplitr; · (ipureintro; rfl)
    iexact Hi
  iexists _; isplitr; · (ipureintro; rfl)
  iexact Hout

theorem bigSep_W (Φ : Fin cfg0.W → sProp 𝕄) : bigSep Finset.univ Φ = iprop(Φ (0 : Fin 3) ∗ Φ (1 : Fin 3) ∗ Φ (2 : Fin 3)) := bigSep_W0 Φ

set_option maxRecDepth 16000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ (c : Thread nD τ) none) Set.univ
    (cc0_body tabM (Memref.isWhole_whole _) idxM (Memref.isWhole_whole _) outM (Memref.isWhole_whole _) rowM (Memref.isWhole_whole _) colM (Memref.isWhole_whole _)
      cc0_scratch2 cc0_scratch3 cc0_scratch4 cc0_scratch5 cc0_scratch6 cc0_scratch7 cc0_scratch8 cc0_scratch9) (fun _ => bodyPost m ρ c)
  exact body_sound m ρ c

/-! ## The cells allocated -/

set_option maxRecDepth 8000 in
theorem ownSemFacts : Pipeline.OwnSemFacts cfg0.spec osem := by
  refine ⟨?_, osem_inj, ?_⟩ <;> decide +kernel

theorem share_eq (c : Dev nD) (w : Fin cfg0.W) : (dats m ρ 0 c).share w = fullShare := by unfold Dat.share; split <;> rfl

def u₀ : UU :=
  (initOf (Pipeline.cells cfgs cellOf_inj) (Pipeline.launchToks cfgs cellOf_inj), initOf allCells allToks)

/-- What the launch element deals device `c`. -/
def G (c : Dev nD) : sProp 𝕄 :=
  iprop((bigSep Finset.univ fun k : Cell => roundState ER (Rd (parts m)) (kc c k) 0)
    ∗ (bigSep Finset.univ fun k : Cell => iprop(atPos ER (kc c k) 0 ∅ 0 ∗ reached ER (kc c k) 0)) ∗ toks (F := F) c)
/-- What the global step makes of it. -/
def G' (c : Dev nD) : sProp 𝕄 := iprop(∃ K, records (parts m) K ∗ positions (F := F) c ∗ payToks (F := F) c)

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kc c k) := by
    unfold allCells; rw [bigSep_map, bigSep_univ_prod]; rfl
  have hT : bigSep allToks (fun x => (dutyTok ER x.1 x.2.1 x.2.2 : sProp 𝕄)) = bigSep Finset.univ fun c : Dev nD => toks (F := F) c := by
    unfold allToks; rw [bigSep_map, bigSep_univ_prod]; rfl
  iintro HX
  imod (Rounds.fund ER (Rd (parts m)) allCells allToks) $$ HX with ⟨Hst, Hr, Hat, Htok⟩
  imodintro
  ihave Hst' := (Entails.of_eq (hX fun g => roundState ER (Rd (parts m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [zip]
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Own => semVal (kc c (.inr k)) 0 := rfl
theorem unscopedSems0_eq (c : Dev nD) : (unscopedSems0 c : sProp 𝕄) = semVal (kc c bar) 0 := by
  unfold unscopedSems0; rw [bigSep_eq_bigSepL_of_eq [SemLoc.reg barS] (by decide +kernel) (by decide)]; rfl

theorem cell_split (X : Cell → sProp 𝕄) : bigSep Finset.univ X = iprop(X bar ∗ bigSep Finset.univ fun k : Own => X (.inr k)) := by
  rw [bigSep_univ_sum]
  congr 1
  exact bigSep_singleton

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (parts m)) κ (kc c k)))
          ∗ (bigSep Finset.univ fun k => iprop(atPos ER (kc c k) 0 ∅ 0 ∗ reached ER (kc c k) 0)) ∗ toks (F := F) c) := by
  rw [ownSems0_eq, unscopedSems0_eq]
  unfold G
  iintro ⟨Hos, Hus, Hst, Hat, Htok⟩
  imod (show iprop((bigSep Finset.univ fun k : Cell => semVal (kc c k) 0) ∗ bigSep Finset.univ fun k : Cell => roundState ER (Rd (parts m)) (kc c k) 0)
      ⊢ (|={Set.univ}=> bigSep Finset.univ fun k => iprop(∃ κ : ℕ, cellInv ER (Rd (parts m)) κ (kc c k)) : sProp 𝕄) from by
        rw [← zip]
        exact (bigSep_mono fun k _ => (Rounds.body_intro ER (Rd (parts m)) (kc c k)).trans inv_alloc).trans (bigSep_fupd _ _)) $$ [Hos Hus Hst] with Hinv
  · isplitr [Hst]
    · rw [cell_split]; isplitl [Hus] <;> iassumption
    iexact Hst
  imodintro
  isplitl [Hinv]; · iexact Hinv
  isplitl [Hat]; · iexact Hat
  iexact Htok

theorem regroup :
    (bigSep Finset.univ fun c : Dev nD => iprop((bigSep Finset.univ fun k => iprop(∃ κ : ℕ, cellInv ER (Rd (parts m)) κ (kc c k)))
          ∗ (bigSep Finset.univ fun k => iprop(atPos ER (kc c k) 0 ∅ 0 ∗ reached ER (kc c k) 0)) ∗ toks (F := F) c) : sProp 𝕄)
      ⊢ bigSep Finset.univ (G' m) := by
  have hr : (bigSep Finset.univ fun c : Dev nD => bigSep Finset.univ fun k : Cell => (reached ER (kc c k) 0 : sProp 𝕄))
      = bigSep Finset.univ fun ck : Dev nD × Cell => reached ER (kc ck.1 ck.2) 0 := (bigSep_univ_prod fun ck : Dev nD × Cell => (reached ER (kc ck.1 ck.2) 0 : sProp 𝕄)).symm
  have hi : (bigSep Finset.univ fun c : Dev nD => bigSep Finset.univ fun k : Cell => iprop(∃ κ : ℕ, cellInv ER (Rd (parts m)) κ (kc c k) : sProp 𝕄))
      = bigSep Finset.univ fun ck : Dev nD × Cell => iprop(∃ κ : ℕ, cellInv ER (Rd (parts m)) κ (kc ck.1 ck.2)) := (bigSep_univ_prod fun ck : Dev nD × Cell => iprop(∃ κ : ℕ, cellInv ER (Rd (parts m)) κ (kc ck.1 ck.2) : sProp 𝕄)).symm
  have hp (c : Dev nD) : (bigSep Finset.univ fun k : Cell => (atPos ER (kc c k) 0 ∅ 0 : sProp 𝕄)) = positions (F := F) c := by
    unfold positions; rw [cell_split]
  simp only [zip]
  rw [hr, hi, bigSep_congr fun (c : Dev nD) _ => hp c]
  iintro ⟨HI, ⟨Hat, #HR⟩, Htok⟩
  ihave HK := (BI.bigSep_exists_pi Finset.univ (fun (ck : Dev nD × Cell) (κ : ℕ) => (cellInv ER (Rd (parts m)) κ (kc ck.1 ck.2) : sProp 𝕄))) $$ HI
  icases HK with ⟨%K, #HI⟩
  ihave Htk := (toks_around (F := F)) $$ Htok
  have hg : iprop(records (parts m) K ∗ bigSep Finset.univ fun c : Dev nD => iprop(positions (F := F) c ∗ payToks (F := F) c)) ⊢ bigSep Finset.univ (G' m) :=
    (sep_mono_left (BI.bigSep_of_persistent Finset.univ (records (parts m) K))).trans (by
      rw [← zip]
      exact bigSep_mono fun c _ => show iprop(records (parts m) K ∗ positions (F := F) c ∗ payToks (F := F) c) ⊢ G' m c from by
        unfold G'; iintro H; iexists K; iexact H)
  iapply hg
  isplitr
  · unfold records; rw [zip]
    isplitl; · iexact HI
    iexact HR
  rw [zip]
  isplitl [Hat] <;> iassumption

/-- The cells of every device, allocated at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ rowFree colFree rowPt colPt
  iintro ⟨Hs, -, Hr, Hc⟩
  isplitl [Hs]; · iexact Hs
  isplitl [Hr] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq, ownSems0_eq, unscopedSems0_eq]
  unfold Φ₁ rowFree colFree rowPt colPt
  iintro ⟨Hr, Hz, HzB⟩
  isplitl [HzB]; · iexact HzB
  isplitl [Hz]; · iexact Hz
  iexact Hr

/-- The staging semaphores are below every cell. -/
theorem stage_level (c : Dev nD) (q : DmaSem sig) (h : ∀ k : Cell, csem k ≠ .dma q) : lv ((c : Thread nD τ), .dma q) () = 0 := by
  show (cellAt (.dma q)).elim 0 level = 0
  cases e : cellAt (.dma q) with
  | none => rfl
  | some k => exact absurd (cellAt_some e) (h k)

theorem waits (c : Dev nD) : (levAts L lv : sProp 𝕄) ⊢ Pipeline.cellsWaits cfgs (dats m ρ) () 0 c :=
  Pipeline.cellsWaits_intro cfgs (dats m ρ) () 0 c fun w s t =>
    mayWait c _ (by
      rw [stage_level c _ (by fin_cases w <;> fin_cases s <;> decide +kernel)]
      rcases t with ⟨_ | _, ht⟩
      · exact above_O₀ c Nat.zero_lt_one
      · exact above_zero 0)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of 32 devices, for any float values and from any memory with all counters at zero, every weakly fair execution of the program ends,
    with each device's arrays at the stated contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they were; the result array ends at the sum. -/
theorem final_table (c : Dev nD) : finalA m ρ c (0 : Fin 3) = m ((c : Thread nD τ).loc main_arg0) := (dats (F := F) m ρ 0 c).arrAt_in (0 : Fin 3) rfl _
theorem final_idx (c : Dev nD) : finalA m ρ c (1 : Fin 3) = m ((c : Thread nD τ).loc main_arg1) := (dats (F := F) m ρ 0 c).arrAt_in (1 : Fin 3) rfl _

end Cert.Lookup

end
-- ==== Proof.Reference.lean ====
/-
The reference's run on its one device: a straight line of nine operations on whole arrays. Its result is the row
gather of the table at the indices, an index below zero first raised by the number of rows.
-/
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Lookup.Reference

open Cert.ReferenceIdeal Cert.ReferenceIdeal.Gen
open Idealize.ShloMosaic Idealize.ShloMosaic.TcCoe Idealize.ShloMosaic.StableHlo Idealize.SL.Sem

variable {F : FTy → Type} [FloatOps F]

/-- The indices as the gather reads them: one below zero counts from the end of the table. -/
def wrapped (idx : IVec S1024 32) : IVec S1024 32 :=
  select (cmpi .slt idx (broadcastInDim S1024 ![] bcast_S_S1024 (constantI S_ 32 0#32)))
    (addi idx (broadcastInDim S1024 ![] bcast_S_S1024 (constantI S_ 32 131072#32))) idx

/-- The rows of the table at the indices. -/
def rowsAt (x : FVec F S131072x512 .bf16) (idx : IVec S1024 32) : FVec F S1024x512 .bf16 :=
  Host.gather gather_S131072x512_S1024x1_S1024x512_1_0_n_n_0_1_1512 x (broadcastInDim S1024x1 ![0] bcast_S1024_S1024x1_0 (wrapped idx))

/-- The operations in order. -/
abbrev ops : List (HloOp τ sig (Elt F)) :=
  [ nullary main_c (constantI S_ 32 0#32),
    unary main_c main_v0 (broadcastInDim S1024 ![] bcast_S_S1024),
    binary main_arg1 main_v0 main_v1 (cmpi .slt),
    nullary main_c_0 (constantI S_ 32 131072#32),
    unary main_c_0 main_v2 (broadcastInDim S1024 ![] bcast_S_S1024),
    binary main_arg1 main_v2 main_v3 addi,
    ternary main_v1 main_v3 main_arg1 main_v4 select,
    unary main_v4 main_v5 (broadcastInDim S1024x1 ![0] bcast_S1024_S1024x1_0),
    binary main_arg0 main_v5 main_v6 (fun x i => Host.gather gather_S131072x512_S1024x1_S1024x512_1_0_n_n_0_1_1512 x i) ]

theorem main_eq (c : Dev nD) : main (F := F) c = seq ops := rfl

theorem out_eq (V : Valuation τ sig (Elt F)) :
    after ops V (main_v6 : DevRef τ sig) = rowsAt (V (main_arg0 : DevRef τ sig)) (V (main_arg1 : DevRef τ sig)) := by
  after_results_simp
  rfl
theorem arg0_eq (V : Valuation τ sig (Elt F)) : after ops V (main_arg0 : DevRef τ sig) = V (main_arg0 : DevRef τ sig) := by
  simp only [after_cons, after_nil]; rfl
theorem arg1_eq (V : Valuation τ sig (Elt F)) : after ops V (main_arg1 : DevRef τ sig) = V (main_arg1 : DevRef τ sig) := by
  simp only [after_cons, after_nil]; rfl

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub ..⟩

/-- The reference ends with its result at the gathered rows and its arguments as they were. -/
theorem run_ref (m : (ℓ : Loc nD τ sig) → Buf (Elt F) ℓ) (ρ : Dev nD → PrngReg) :
    θ_run defs (onTc (τ := τ) (main (F := F))) ⟨m, fun _ => 0, ρ⟩ fun r =>
      ∀ c : Dev nD,
        r.2.mem ((c.tc : Thread nD τ).loc main_v6) = rowsAt (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v6).trans (out_eq _), (h c main_arg0).trans (arg0_eq _), (h c main_arg1).trans (arg1_eq _)⟩)
    (run_seq (by decide) (by decide) defs main (fun _ => ops) main_eq (fun _ => ops_sub) m ρ)

/-- The reference declares no semaphore, so its counters stay at zero. -/
theorem quiet (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun r h => ⟨fun c => (h c).2, sem_eq_zero_of_no_sems (by decide) r.2⟩) (run_ref m ρ)

end Cert.Lookup.Reference

end
-- ==== Proof.Frames.lean ====
/-
The programs run, leave their arguments as they were and return every counter to zero. The kernel as printed and the
kernel over the extended reals have one text, so one run serves both.
-/
module

public import proofs.«01_k».proof.Defs
public import proofs.«01_k».proof.Proof.Launch
public import proofs.«01_k».proof.Proof.Reference
public import proofs.«01_k».proof.Proof.Gen.Kernel

@[expose] public section

noncomputable section

namespace Cert.Lookup

open Idealize.ShloMosaic Idealize.ShloMosaic.TcCoe Idealize.SL.Sem

variable {F : FTy → Type} [FloatOps F]

section
open Cert.KernelIdeal Cert.KernelIdeal.Gen

/-- What a frame says of the kernel, for any float values. -/
theorem frame_any (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  (θ_run defs _ _).mono (fun _ h => ⟨fun c => ⟨(h.1 c (0 : Fin 3)).trans (final_table m ρ c), (h.1 c (1 : Fin 3)).trans (final_idx m ρ c)⟩, h.2⟩)
    (run_main m ρ)

end

theorem frame_ideal : Cert.quiescent_KernelIdeal := fun m ρ _ => frame_any m ρ

/-- The two printings have one table of bodies. -/
theorem bodies_same : Cert.Kernel.defs₀ (F := F) = Cert.KernelIdeal.defs₀ (F := F) := by
  unfold Cert.Kernel.defs₀ Cert.KernelIdeal.defs₀
  refine congrArg Defs.onTc (funext fun l => ?_)
  match l with
  | 0 => exact funext fun ts => rfl
  | ⟨_ + 1, h⟩ => exact absurd h (Nat.not_lt.2 (Nat.le_add_left _ _))

theorem defs_same : Cert.Kernel.defs (F := F) = Cert.KernelIdeal.defs (F := F) :=
  congrArg (Pipeline.defs (Cert.KernelIdeal.pcfgs (F := F))) bodies_same

theorem frame_kernel : Cert.quiescent_Kernel := fun m ρ _ => by
  rw [defs_same]
  exact frame_any (F := Bits) m ρ

theorem frame_reference : Cert.quiescent_ReferenceIdeal := fun m ρ _ => Reference.quiet m ρ

end Cert.Lookup

end
-- ==== Proof.OneHot.lean ====
/-
A device's part of the lookup over the extended reals: each index becomes a row with a one at the local row it names, and
the product of those rows with the device's part of the table has the named row where the device owns it and zero elsewhere.
-/
module

public import proofs.«01_k».proof.Proof.Phases
public import Idealize.ShloMosaic.PureOps.Ideal
public import Idealize.ShloMosaic.Lib.MatmulPlain
public import Idealize.ShloMosaic.Lib.ValueIdx
public import Idealize.ShloMosaic.Lib.ValueLayoutCasts

@[expose] public section

noncomputable section

namespace Cert.Lookup

open Cert.KernelIdeal Cert.KernelIdeal.Gen
open Idealize.ShloMosaic Idealize.ShloMosaic.TcCoe Idealize.ShloMosaic.ValueIdx Idealize.SL.Sem
open scoped BigOperators

/-! ## One-hot rows -/

/-- The comparison of the lanes, counted from `b`, with the column's words, as zeros and ones. -/
def hot (b : BitVec 32) (w : IVec S1024x1 32) : FVec Ideal S1024x2048 .bf16 :=
  truncf .bf16 (sitofp .f32 (extui 32 (cmpi .eq (addi (iota .tc S1024x2048 32 [1] iota_S1024x2048_d1_w32) (broadcast S1024x2048 b))
    (broadcastTo S1024x2048 w broadcasts_S1024x1_S1024x2048)) natLt_1_32)) bitsLt_bf16_f32

theorem ofBool_real (p : Bool) : ((((BitVec.ofBool p).setWidth 32).toInt : ℝ) : EReal) = if p then 1 else 0 := by
  cases p
  · rw [show ((BitVec.ofBool false).setWidth 32).toInt = 0 by decide]; simp
  · rw [show ((BitVec.ofBool true).setWidth 32).toInt = 1 by decide]; simp

theorem hot_apply (b : BitVec 32) (w : IVec S1024x1 32) (n : Fin 1024) (r : Fin 2048) :
    hot b w (ix2 n r) = if BitVec.ofNat 32 r.val + b = w (ix2 n 0) then 1 else 0 := by
  have hb : broadcastTo S1024x2048 w broadcasts_S1024x1_S1024x2048 (ix2 n r) = w (ix2 n 0) := by
    refine congrArg w (funext fun a => ?_)
    match a with
    | ⟨0, _⟩ => rfl
    | ⟨1, _⟩ => rfl
  have hi : iota .tc S1024x2048 32 [1] iota_S1024x2048_d1_w32 (ix2 n r) = BitVec.ofNat 32 r.val :=
    congrArg (BitVec.ofNat 32) (show 0 * 2048 + r.val = r.val by omega)
  refine (ofBool_real _).trans ?_
  show (if (iota .tc S1024x2048 32 [1] iota_S1024x2048_d1_w32 (ix2 n r) + b
    == broadcastTo S1024x2048 w broadcasts_S1024x1_S1024x2048 (ix2 n r)) = true then (1 : EReal) else 0) = _
  rw [hb, hi]
  simp only [beq_iff_eq]

/-- The words compared: each index less the device's first row. -/
theorem word_apply (c : Dev nD) (i : IVec S1024 32) (n : Fin 1024) :
    k0_pay1 (F := Ideal) (meW c) i (ix2 n 0) = i (ix1 n) - BitVec.ofNat 32 c.val * 4096#32 := by
  unfold k0_pay1
  rw [shapeCast_a_a1_apply]
  show shapeCast S1024 i shapeCasts_S1024_S1024 (ix1 n) - Scalar.muli (meW c) 4096#32 = _
  rw [shapeCast_self, show meW c = BitVec.ofNat 32 c.val from me_word c]
  rfl

/-- Where the lane of a row names an index: the row and the index agree as numbers. -/
theorem word_hit (c : Dev nD) (v b : BitVec 32) (r : Fin 2048) (hb : b.toNat ≤ 2048) (hv : v.toNat < 131072) :
    BitVec.ofNat 32 r.val + b = v - BitVec.ofNat 32 c.val * 4096#32 ↔ v.toNat = 4096 * c.val + b.toNat + r.val := by
  have hc : c.val < 32 := c.isLt
  have hr := r.isLt
  rw [← BitVec.toNat_inj]
  simp only [BitVec.toNat_add, BitVec.toNat_sub, BitVec.toNat_mul, BitVec.toNat_ofNat]
  omega

/-! ## The product with one-hot rows -/

/-- A sum that names at most one term. -/
theorem sum_hit (g : ℕ → EReal) (v base : ℕ) :
    (∑ r : Fin 2048, (if v = base + r.val then (1 : EReal) else 0) * g (base + r.val)) = if base ≤ v ∧ v < base + 2048 then g v else 0 := by
  by_cases h : base ≤ v ∧ v < base + 2048
  · rw [if_pos h, Finset.sum_eq_single (⟨v - base, by omega⟩ : Fin 2048)]
    · have e : base + (v - base) = v := by omega
      simp only [e, if_true, one_mul]
    · intro r _ hr
      rw [if_neg, zero_mul]
      intro e; exact hr (Fin.ext (by show r.val = v - base; omega))
    · intro h'; exact absurd (Finset.mem_univ _) h'
  · rw [if_neg h]
    refine Finset.sum_eq_zero fun r _ => ?_
    have := r.isLt
    rw [if_neg (by omega), zero_mul]

theorem zero32 : Ideal.ofBits .f32 0x00000000#32 = 0 := by simp [Ideal.ofBits, Ideal.ieee]

/-- One half of the device's part of the table: rows `lo …` of it, through the one-hot rows. -/
theorem half (c : Dev nD) (i : IVec S1024 32) (t : FVec Ideal S2048x512 .bf16) (b : BitVec 32) (hb : b.toNat ≤ 2048)
    (n : Fin 1024) (k : Fin 512) (g : ℕ → EReal) (hv : (i (ix1 n)).toNat < 131072)
    (ht : ∀ r : Fin 2048, t (ix2 r k) = g (4096 * c.val + b.toNat + r.val)) :
    matmul dot_S1024x2048_S2048x512_S1024x512_1_0_0_1_n_n none (hot b (k0_pay1 (F := Ideal) (meW c) i)) t
        (constant S1024x512 .f32 0x00000000#32) (ix2 n k)
      = if 4096 * c.val + b.toNat ≤ (i (ix1 n)).toNat ∧ (i (ix1 n)).toNat < 4096 * c.val + b.toNat + 2048 then g (i (ix1 n)).toNat else 0 := by
  refine (Ideal.matmul_plain_apply (M := 1024) (K := 2048) (N := 512) none _ t _ n k).trans ?_
  rw [constant_apply, zero32, zero_add, ← sum_hit]
  refine Finset.sum_congr rfl fun r _ => ?_
  rw [hot_apply, word_apply, ht r]
  congr 1
  exact if_congr (word_hit c _ b r hb hv) rfl rfl

/-- The device's part of the lookup: the named row where the device owns it, zero elsewhere. -/
theorem part_apply (c : Dev nD) (x : FVec Ideal S4096x512 .bf16) (i : IVec S1024 32) (n : Fin 1024) (k : Fin 512) (g : ℕ → EReal)
    (hv : (i (ix1 n)).toNat < 131072) (hx : ∀ r : Fin 4096, x (ix2 r k) = g (4096 * c.val + r.val)) :
    part (F := Ideal) c x i (ix2 n k) = if (i (ix1 n)).toNat / 4096 = c.val then g (i (ix1 n)).toNat else 0 := by
  have lo := half c i (tabM.view.readAt (Elt Ideal) tabLo.toLoadRect x) 0#32 (by decide) n k g hv fun r => by
    refine Eq.trans (congrArg x (funext fun a => Fin.ext ?_)) (hx ⟨r.val, by omega⟩)
    match a with
    | ⟨0, _⟩ => show 0 + 1 * r.val = r.val; omega
    | ⟨1, _⟩ => show 0 + 1 * k.val = k.val; omega
  have hi := half c i (tabM.view.readAt (Elt Ideal) tabHi.toLoadRect x) 2048#32 (by decide) n k g hv fun r => by
    refine Eq.trans (congrArg x (funext fun a => Fin.ext ?_)) ((hx ⟨2048 + r.val, by omega⟩).trans (congrArg g ?_))
    · match a with
      | ⟨0, _⟩ => show 2048 + 1 * r.val = 2048 + r.val; omega
      | ⟨1, _⟩ => show 0 + 1 * k.val = k.val; omega
    · show 4096 * c.val + (2048 + r.val) = 4096 * c.val + 2048 + r.val; omega
  unfold part k0_pay4 k0_pay2 k0_pay3
  simp only [shapeCast_self]
  show (Ideal.ofBits .f32 0x00000000#32 + matmul dot_S1024x2048_S2048x512_S1024x512_1_0_0_1_n_n none (hot 0#32 (k0_pay1 (F := Ideal) (meW c) i)) _ _ (ix2 n k))
    + matmul dot_S1024x2048_S2048x512_S1024x512_1_0_0_1_n_n none (hot 2048#32 (k0_pay1 (F := Ideal) (meW c) i)) _ _ (ix2 n k) = _
  rw [lo, hi, zero32, zero_add]
  simp only [BitVec.toNat_ofNat]
  generalize (i (ix1 n)).toNat = v at *
  by_cases h : v / 4096 = c.val
  · rw [if_pos h]
    by_cases h2 : v < 4096 * c.val + 2048
    · rw [if_pos (by omega), if_neg (by omega), add_zero]
    · rw [if_neg (by omega), if_pos (by omega), zero_add]
  · rw [if_neg h, if_neg (by omega), if_neg (by omega), zero_add]

end Cert.Lookup

end
-- ==== Proof.Arrays.lean ====
/-
The kernel's staged operands are its whole arguments, and its result array ends at the staged result.
-/
module

public import proofs.«01_k».proof.Proof.Launch
public import Idealize.ShloMosaic.Lib.Pipeline.ValueKit.Geometry

@[expose] public section

noncomputable section

namespace Cert.Lookup

open Cert.KernelIdeal Cert.KernelIdeal.Gen
open Idealize.ShloMosaic Idealize.ShloMosaic.TcCoe Idealize.SL.Sem Idealize.ShloMosaic.Pipeline

variable {F : FTy → Type} [FloatOps F]
variable (m : (ℓ : Loc nD τ sig) → Buf (Elt F) ℓ) (ρ : Dev nD → PrngReg)

theorem win_zero : (∀ a, win0_0.index t0_0 a = 0) ∧ (∀ a, win0_1.index t0_0 a = 0) := by decide +kernel

/-- The one block of the table window is the device's part of the table. -/
theorem xstg_eq (c : Dev nD) : xstg m c = m ((c : Thread nD τ).loc main_arg0) := by
  funext y
  refine congrArg (m ((c : Thread nD τ).loc main_arg0)) (funext fun a => Fin.ext ?_)
  exact win0_0.rect_emb_val_of_index_zero t0_0 a (win_zero.1 a) y

/-- The one block of the index window is all the indices. -/
theorem istg_eq (c : Dev nD) : istg m c = m ((c : Thread nD τ).loc main_arg1) := by
  funext y
  refine congrArg (m ((c : Thread nD τ).loc main_arg1)) (funext fun a => Fin.ext ?_)
  exact win0_1.rect_emb_val_of_index_zero t0_0 a (win_zero.2 a) y

theorem out_whole : (cfg0.win 2).WholeAt t0_0 := by decide +kernel

/-- The result array ends at the sums over all devices. -/
theorem final_out (c : Dev nD) : finalA m ρ c (2 : Fin 3) = fin (parts m) := by
  funext i
  exact (Dat.arrAt_emb_eq_after_last (dats m ρ 0 c) (2 : Fin 3) t0_0 out_whole i).trans rfl

/-- The kernel's run in one statement: results and arguments of every device. -/
theorem run_values : θ_run defs (onTc (τ := τ) (main (F := F))) ⟨m, fun _ => 0, ρ⟩ fun r => ∀ c : Dev nD,
    r.2.mem ((c.tc : Thread nD τ).loc main_v1) = fin (parts m)
    ∧ r.2.mem ((c.tc : Thread nD τ).loc main_arg0) = m ((c.tc : Thread nD τ).loc main_arg0)
    ∧ r.2.mem ((c.tc : Thread nD τ).loc main_arg1) = m ((c.tc : Thread nD τ).loc main_arg1) :=
  (θ_run defs _ _).mono (fun _ h c => ⟨(h.1 c (2 : Fin 3)).trans (final_out m ρ c),
    (h.1 c (0 : Fin 3)).trans (final_table m ρ c), (h.1 c (1 : Fin 3)).trans (final_idx m ρ c)⟩) (run_main m ρ)

end Cert.Lookup

end
-- ==== Proof.Lookup.lean ====
/-
Both programs compute the rows of the table at the indices: the kernel because exactly one device owns each named row and
the sums over all devices add zeros to it, the reference by its gather.
-/
module

public import proofs.«01_k».proof.Proof.OneHot
public import proofs.«01_k».proof.Proof.Arrays
public import proofs.«01_k».proof.Proof.Frames
public import Idealize.ShloMosaic.Lib.Layout

@[expose] public section

noncomputable section

namespace Cert.Lookup

open Idealize.ShloMosaic Idealize.ShloMosaic.TcCoe Idealize.ShloMosaic.ValueIdx Idealize.SL.Sem

/-- Row `v` of the whole table, at column `k`. -/
def rowOf (X : FVec Ideal Cert.ReferenceIdeal.S131072x512 .bf16) (k : Fin 512) (v : ℕ) : EReal :=
  X (ix2 ⟨v % 131072, Nat.mod_lt _ (by decide)⟩ k)

/-! ## The sums over the devices -/

section
open Cert.KernelIdeal

/-- How many of the partial results a device sums over its group are device `o`'s. -/
def rowCount (o c : Dev nD) : ℕ :=
  (if o = c then 1 else 0) + (if o = rm c 0 then 1 else 0) + (if o = rm c 1 then 1 else 0) + (if o = rm c 2 then 1 else 0)
    + (if o = rm c 3 then 1 else 0) + (if o = rm c 4 then 1 else 0) + (if o = rm c 5 then 1 else 0) + (if o = rm c 6 then 1 else 0)
/-- How many of those summed over the column. -/
def colCount (o c : Dev nD) : ℕ := rowCount o c + rowCount o (cm c 0) + rowCount o (cm c 1) + rowCount o (cm c 2)

/-- Every device's partial result is in every sum exactly once. -/
theorem colCount_one (o c : Dev nD) : colCount o c = 1 := by revert o c; decide +kernel

variable {P : Dev nD → OutC Ideal} {i : S1024x512.Idx} {o : Dev nD} {y : EReal}

theorem sumRow_count (h : ∀ c, P c i = (if o = c then 1 else 0 : ℕ) • y) (c : Dev nD) : sumRow P c i = rowCount o c • y := by
  unfold sumRow rowCount
  simp only [addf_apply, h, add_nsmul]

/-- If only device `o` has something at a place, the result there is that. -/
theorem fin_owner (h : ∀ c, P c i = if o = c then y else 0) : fin P i = y := by
  have h' : ∀ c, P c i = (if o = c then 1 else 0 : ℕ) • y := fun c => by
    rw [h c]; by_cases e : o = c
    · rw [if_pos e, if_pos e, one_nsmul]
    · rw [if_neg e, if_neg e, zero_nsmul]
  unfold fin
  generalize owner (i 0).val = c
  have e : sumCol P c i = colCount o c • y := by
    unfold sumCol colCount
    simp only [addf_apply, sumRow_count h', add_nsmul]
  rw [e, colCount_one, one_nsmul]

/-- The kernel's result, at an index that names a row of the table. -/
theorem kernel_value (X : FVec Ideal Cert.ReferenceIdeal.S131072x512 .bf16) (I : IVec S1024 32)
    (m : (ℓ : Loc nD τ sig) → Buf (Elt Ideal) ℓ)
    (hX : ∀ c : Dev nD, m ((c.tc : Thread nD τ).loc main_arg0) = Layout.block ⟨2, ![4096, 512]⟩ ⟨2, ![131072, 512]⟩ 0 32 c X)
    (hI : ∀ c : Dev nD, m ((c.tc : Thread nD τ).loc main_arg1) = I)
    (n : Fin 1024) (k : Fin 512) (hv : (I (ix1 n)).toNat < 131072) :
    fin (parts m) (ix2 n k) = rowOf X k (I (ix1 n)).toNat := by
  refine fin_owner (o := ⟨(I (ix1 n)).toNat / 4096, by show _ < 32; omega⟩) fun c => ?_
  have hc : c.val < 32 := c.isLt
  have hp := part_apply c (xstg m c) (istg m c) n k (rowOf X k)
    (by rw [istg_eq, hI]; exact hv) fun r => by
      have hr := r.isLt
      rw [xstg_eq, hX]
      refine congrArg X (funext fun a => Fin.ext ?_)
      match a with
      | ⟨0, _⟩ => show c.val * 4096 + r.val = (4096 * c.val + r.val) % 131072; omega
      | ⟨1, _⟩ => rfl
  refine hp.trans ?_
  rw [istg_eq, hI]
  exact if_congr ⟨fun e => Fin.ext e, fun e => congrArg Fin.val e⟩ rfl rfl

end

/-! ## The reference's gather -/

section
open Cert.ReferenceIdeal Cert.ReferenceIdeal.Gen

/-- The gather of whole rows, at row `n` and column `k`: the row named, read signed and clamped into the table. -/
theorem gather_row {F : FTy → Type} [FloatOps F] (x : FVec F S131072x512 .bf16) (w : IVec S1024x1 32) (n : Fin 1024) (k : Fin 512) :
    Host.gather gather_S131072x512_S1024x1_S1024x512_1_0_n_n_0_1_1512 x w (ix2 n k)
      = x (ix2 ⟨min (w (ix2 n 0)).toInt.toNat 131071, by omega⟩ k) := by
  unfold Host.gather
  refine congrArg x (funext fun a => Fin.ext ?_)
  generalize hd : gather_S131072x512_S1024x1_S1024x512_1_0_n_n_0_1_1512 = d
  show d.start (ix2 n k) w a + d.batchCoord (ix2 n k) a + d.offCoord (ix2 n k) a = _
  subst hd
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S131072x512_S1024x1_S1024x512_1_0_n_n_0_1_1512.startIndexMap from List.mem_singleton.mpr rfl)]
    have hsi : gather_S131072x512_S1024x1_S1024x512_1_0_n_n_0_1_1512.siIdx (ix2 n k)
        ⟨List.idxOf (0 : Fin 2) gather_S131072x512_S1024x1_S1024x512_1_0_n_n_0_1_1512.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi]
    rfl
  · unfold GatherDims.start
    rw [dif_neg (show (1 : Fin 2) ∉ gather_S131072x512_S1024x1_S1024x512_1_0_n_n_0_1_1512.startIndexMap by decide)]
    simp only [Nat.zero_add]
    unfold GatherDims.offCoord
    rw [dif_pos (by decide)]
    rfl

/-- A word below the number of rows is not negative as a signed number. -/
theorem small_word (v : BitVec 32) (h : v.toNat < 131072) : v.slt 0#32 = false ∧ v.toInt.toNat = v.toNat := by
  have e : v.toInt = (v.toNat : ℤ) := by rw [BitVec.toInt_eq_toNat_cond]; split <;> omega
  refine ⟨?_, by rw [e]; rfl⟩
  rw [BitVec.slt, e]; simp

/-- The reference's result, at an index that names a row of the table. -/
theorem reference_value (X : FVec Ideal S131072x512 .bf16) (I : IVec S1024 32) (n : Fin 1024) (k : Fin 512) (hv : (I (ix1 n)).toNat < 131072) :
    Reference.rowsAt X I (ix2 n k) = rowOf X k (I (ix1 n)).toNat := by
  obtain ⟨h0, h1⟩ := small_word _ hv
  have hw : broadcastInDim S1024x1 ![0] bcast_S1024_S1024x1_0 (Reference.wrapped I) (ix2 n 0) = I (ix1 n) := by
    have e : broadcastInDim S1024x1 ![0] bcast_S1024_S1024x1_0 (Reference.wrapped I) (ix2 n 0) = Reference.wrapped I (ix1 n) := by
      refine congrArg (Reference.wrapped I) (funext fun a => ?_)
      match a with
      | ⟨0, _⟩ => rfl
    rw [e]
    show Scalar.select (BitVec.ofBool ((I (ix1 n)).slt 0#32)) _ (I (ix1 n)) = _
    rw [h0]; rfl
  unfold Reference.rowsAt
  rw [gather_row]
  refine congrArg X (funext fun a => Fin.ext ?_)
  match a with
  | ⟨0, _⟩ =>
    show min (broadcastInDim S1024x1 ![0] bcast_S1024_S1024x1_0 (Reference.wrapped I) (ix2 n 0)).toInt.toNat 131071 = (I (ix1 n)).toNat % 131072
    rw [hw, h1]; omega
  | ⟨1, _⟩ => rfl

end

/-! ## The precondition -/

instance pre_kernel : Cert.Pre_names_rows_KernelIdeal.Facts := ⟨by decide⟩
instance pre_reference : Cert.Pre_names_rows_ReferenceIdeal.Facts := ⟨by decide⟩

/-- Indices that pass the precondition's two comparisons are below the number of rows. -/
theorem names_rows (x : FVec Ideal Cert.KernelIdeal.S4096x512 .bf16) (I : IVec Cert.KernelIdeal.S1024 32)
    (h : Cert.Pre_names_rows_KernelIdeal.fn (F := Ideal) x I = fun _ => 1#1) (n : Fin 1024) : (I (ix1 n)).toNat < 131072 := by
  have e := congrFun h (ix1 n)
  have e' : BitVec.ofBool ((0#32).sle (I (ix1 n))) &&& BitVec.ofBool ((I (ix1 n)).slt 131072#32) = 1#1 := e
  generalize I (ix1 n) = v at e'
  have key : (0#32).sle v = true ∧ v.slt 131072#32 = true := by
    revert e'
    cases (0#32).sle v <;> cases v.slt 131072#32 <;> decide
  obtain ⟨h0, h1⟩ := key
  rw [BitVec.sle] at h0; rw [BitVec.slt] at h1
  have h0' : 0 ≤ v.toInt := by simpa using h0
  have h1' : v.toInt < 131072 := by simpa using h1
  rw [BitVec.toInt_eq_toNat_cond] at h0' h1'
  split at h0' <;> omega

/-! ## The claim -/

theorem rows_equal : Cert.algebraic_KernelIdeal_ReferenceIdeal_pre_names_rows_KernelIdeal := fun m g m' g' hpre hargs => by
  refine ⟨Reference.rowsAt (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h c).1.trans ?_, (h c).2⟩) (run_values m g)
    funext i
    rw [eq_ix2 i]
    have hv := names_rows _ _ (hpre c) (i 0)
    rw [(hargs c).2] at hv
    exact (kernel_value _ _ m (fun c => (hargs c).1) (fun c => (hargs c).2) (i 0) (i 1) hv).trans
      (reference_value _ _ (i 0) (i 1) hv).symm
  · exact (θ_run Cert.ReferenceIdeal.defs _ _).mono (fun r h => h 0) (Reference.run_ref m' g')

end Cert.Lookup

end
-- ==== Proof.lean ====
/-
The certificate of an embedding lookup over 32 devices: the table's rows are cut over the devices, each device looks up
the indices it owns by a one-hot product, and a reduce-scatter in two levels followed by an all-gather in two levels gives
every device the whole result.

The kernel's run is Proof/Launch.lean's `run_main`, for any float values; Proof/Frames.lean reads the frames off it and
Proof/Lookup.lean the values.
-/
module

public import proofs.«01_k».proof.Defs
public import proofs.«01_k».proof.Proof.Frames
public import proofs.«01_k».proof.Proof.Lookup

@[expose] public section

noncomputable section

namespace Cert.Proof

open Cert.Lookup

theorem claim : Cert.Claim :=
  ⟨Cert.Kernel.Gen.facts, Cert.KernelIdeal.Gen.facts, Cert.ReferenceIdeal.Gen.facts, pre_kernel, pre_reference,
    frame_kernel, frame_ideal, fun m ρ _ => frame_ideal m ρ trivial, frame_reference, fun m ρ _ => frame_reference m ρ trivial,
    trivial, rows_equal⟩

end Cert.Proof

end
